-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x3072x2048 : Shape := ⟨3, ![5, 3072, 2048]⟩
abbrev S7168x2048 : Shape := ⟨2, ![7168, 2048]⟩
abbrev S15360x2048 : Shape := ⟨2, ![15360, 2048]⟩
abbrev S15360x7168 : Shape := ⟨2, ![15360, 7168]⟩
abbrev S15360x56 : Shape := ⟨2, ![15360, 56]⟩
abbrev S1024x2048 : Shape := ⟨2, ![1024, 2048]⟩
abbrev S1024x1024 : Shape := ⟨2, ![1024, 1024]⟩
abbrev S1024x56 : Shape := ⟨2, ![1024, 56]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S5x3072x2048, .bf16⟩
  | .hbm, ⟨1, _⟩ => ⟨S7168x2048, .bf16⟩
  | .hbm, ⟨2, _⟩ => ⟨S15360x2048, .bf16⟩
  | .hbm, ⟨3, _⟩ => ⟨S15360x7168, .bf16⟩
  | .hbm, ⟨4, _⟩ => ⟨S15360x7168, .fp8e4m3⟩
  | .hbm, ⟨5, _⟩ => ⟨S15360x56, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .fp8e4m3⟩
  | .local _ .vmem, ⟨7, _⟩ => ⟨S1024x1024, .fp8e4m3⟩
  | .local _ .vmem, ⟨8, _⟩ => ⟨S1024x56, .f32⟩
  | .local _ .vmem, ⟨9, _⟩ => ⟨S1024x56, .f32⟩
  | _, _ => ⟨S5x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![15, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x56 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S5x3072x2048 : Shape := ⟨3, ![5, 3072, 2048]⟩
abbrev S7168x2048 : Shape := ⟨2, ![7168, 2048]⟩
abbrev S246 : Shape := ⟨1, ![246]⟩
abbrev S5x3072x7168 : Shape := ⟨3, ![5, 3072, 7168]⟩
abbrev S5x3072x56x128 : Shape := ⟨4, ![5, 3072, 56, 128]⟩
abbrev S_ : Shape := ⟨0, ![]⟩
abbrev S5x3072x56 : Shape := ⟨3, ![5, 3072, 56]⟩
abbrev S5x3072x56x1 : Shape := ⟨4, ![5, 3072, 56, 1]⟩
abbrev S1x1x1x246 : Shape := ⟨4, ![1, 1, 1, 246]⟩
abbrev S5x3072x56x246 : Shape := ⟨4, ![5, 3072, 56, 246]⟩
abbrev S15360x7168 : Shape := ⟨2, ![15360, 7168]⟩
abbrev S15360x56 : Shape := ⟨2, ![15360, 56]⟩

abbrev nBuf : Space → Nat
  | .hbm => 54
  | .vmem => 2
  | .smem => 0
  | _ => 0

abbrev bufTy : (tb : Table) → Fin (tcTables nBuf tb) → BufTy
  | .hbm, ⟨0, _⟩ => ⟨S5x3072x2048, .bf16⟩
  | .hbm, ⟨1, _⟩ => ⟨S7168x2048, .bf16⟩
  | .hbm, ⟨2, _⟩ => ⟨S246, .f32⟩
  | .hbm, ⟨3, _⟩ => ⟨S5x3072x7168, .f32⟩
  | .hbm, ⟨4, _⟩ => ⟨S5x3072x7168, .bf16⟩
  | .hbm, ⟨5, _⟩ => ⟨S5x3072x7168, .f32⟩
  | .hbm, ⟨6, _⟩ => ⟨S5x3072x56x128, .f32⟩
  | .hbm, ⟨7, _⟩ => ⟨S5x3072x56x128, .f32⟩
  | .hbm, ⟨8, _⟩ => ⟨S_, .f32⟩
  | .hbm, ⟨9, _⟩ => ⟨S5x3072x56, .f32⟩
  | .hbm, ⟨10, _⟩ => ⟨S_, .f32⟩
  | .hbm, ⟨11, _⟩ => ⟨S5x3072x56, .f32⟩
  | .hbm, ⟨12, _⟩ => ⟨S5x3072x56, .f32⟩
  | .hbm, ⟨13, _⟩ => ⟨S5x3072x56x1, .f32⟩
  | .hbm, ⟨14, _⟩ => ⟨S1x1x1x246, .f32⟩
  | .hbm, ⟨15, _⟩ => ⟨S5x3072x56x246, .f32⟩
  | .hbm, ⟨16, _⟩ => ⟨S5x3072x56x246, .f32⟩
  | .hbm, ⟨17, _⟩ => ⟨S5x3072x56x246, .i1⟩
  | .hbm, ⟨18, _⟩ => ⟨S_, .f32⟩
  | .hbm, ⟨19, _⟩ => ⟨S_, .f32⟩
  | .hbm, ⟨20, _⟩ => ⟨S5x3072x56x246, .f32⟩
  | .hbm, ⟨21, _⟩ => ⟨S5x3072x56x246, .f32⟩
  | .hbm, ⟨22, _⟩ => ⟨S5x3072x56x246, .f32⟩
  | .hbm, ⟨23, _⟩ => ⟨S_, .f32⟩
  | .hbm, ⟨24, _⟩ => ⟨S5x3072x56, .f32⟩
  | .hbm, ⟨25, _⟩ => ⟨S_, .f32⟩
  | .hbm, ⟨26, _⟩ => ⟨S5x3072x56, .f32⟩
  | .hbm, ⟨27, _⟩ => ⟨S5x3072x56, .i1⟩
  | .hbm, ⟨28, _⟩ => ⟨S_, .f32⟩
  | .hbm, ⟨29, _⟩ => ⟨S5x3072x56, .f32⟩
  | .hbm, ⟨30, _⟩ => ⟨S5x3072x56, .i1⟩
  | .hbm, ⟨31, _⟩ => ⟨S5x3072x56, .i1⟩
  | .hbm, ⟨32, _⟩ => ⟨S_, .f32⟩
  | .hbm, ⟨33, _⟩ => ⟨S_, .f32⟩
  | .hbm, ⟨34, _⟩ => ⟨S5x3072x56, .f32⟩
  | .hbm, ⟨35, _⟩ => ⟨S5x3072x56, .f32⟩
  | .hbm, ⟨36, _⟩ => ⟨S_, .f32⟩
  | .hbm, ⟨37, _⟩ => ⟨S5x3072x56, .f32⟩
  | .hbm, ⟨38, _⟩ => ⟨S5x3072x56, .f32⟩
  | .hbm, ⟨39, _⟩ => ⟨S5x3072x56x1, .f32⟩
  | .hbm, ⟨40, _⟩ => ⟨S5x3072x56x128, .f32⟩
  | .hbm, ⟨41, _⟩ => ⟨S5x3072x56x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S5x3072x56x128, .f32⟩
  | .hbm, ⟨46, _⟩ => ⟨S5x3072x56x128, .f32⟩
  | .hbm, ⟨47, _⟩ => ⟨S_, .f32⟩
  | .hbm, ⟨48, _⟩ => ⟨S5x3072x56x128, .f32⟩
  | .hbm, ⟨49, _⟩ => ⟨S5x3072x56x128, .f32⟩
  | .hbm, ⟨50, _⟩ => ⟨S15360x7168, .bf16⟩
  | .hbm, ⟨51, _⟩ => ⟨S15360x7168, .f32⟩
  | .hbm, ⟨52, _⟩ => ⟨S15360x56, .f32⟩
  | .hbm, ⟨53, _⟩ => ⟨S15360x7168, .fp8e4m3⟩
  | .local _ .vmem, ⟨0, _⟩ => ⟨S15360x7168, .f32⟩
  | .local _ .vmem, ⟨1, _⟩ => ⟨S15360x7168, .fp8e4m3⟩
  | _, _ => ⟨S5x3072x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S15360x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelWords.lean ====
/- The frame of the kernel at words: the program terminates without fault, its arguments end unchanged and every
   semaphore counter ends at zero. Nothing is said here of what the three outputs hold, so their windows are left
   unnamed in the proof data. -/
module

public import proofs.«01_k».proof.Proof.Gen.Kernel.Frame
public import proofs.«01_k».proof.Proof.Gen.Kernel.Skeleton
public import Idealize.ShloMosaic.Lib.Pipeline.DatRel
public import Idealize.ShloMosaic.Lib.Pipeline.ArrRel
public import Idealize.ShloMosaic.Lib.Pipeline.Frame
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Arguments unchanged, from a run whose proof data start from the contents at region entry and say something of the
    input windows only. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c))⟩) h

/-! ## The body at any staging memrefs -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x56 .f32 := win0_4.stage (cfg0.slots t 4)
abbrev hs0_4 (t : Fin cfg0.N) : (ms0_4 t).IsWhole := hstage0_4 ((cfg0.slots t 4).cast nbuf0_4)

set_option maxHeartbeats 1000000 in
/-- On whole staging memrefs, the inputs at their contents and the outputs at anything, the body runs and hands the
    inputs back as they were and the outputs at some contents. -/
theorem kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .fp8e4m3) (harg5 : arg5.IsWhole) (arg6 : Memref sig .tc .vmem S1024x56 .f32) (harg6 : arg6.IsWhole)
    (x0 : Vec F S1024x2048 .bf16) (x1 : Vec F S1024x2048 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_dgrad_requant i arg2 harg2 arg3 harg3 arg4 harg4 arg5 harg5 arg6 harg6) K := by
    intro E K
    simp only [cc0_dgrad_requant_eq_skeleton]; unfold cc0_dgrad_requant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    iexists _, _; isplitr; swap; · iexact H4
    ipureintro; rfl

/-! ## The pipeline's proof data -/

/-- The output windows this certificate leaves unnamed (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, unnamed, at `Dat.unnamed`; the invariant the library's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: inputs unchanged, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every input array of the pipeline unchanged, nothing stated of the
    unnamed outputs (windows 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- Termination, arguments unchanged, counters at zero, for any meaning of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand

end
-- ==== Proof.KernelRun.lean ====
/- The run of the kernel body on whole staging buffers: what its stores leave in the three output buffers, as pieces. -/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces that the body's stores leave in each output buffer (last first), with the proof that the body, run on
    the two input blocks and on a scale buffer holding `xo4`, ends with those pieces written. -/
noncomputable def bodyRun (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .fp8e4m3) (harg5 : arg5.IsWhole) (arg6 : Memref sig .tc .vmem S1024x56 .f32) (harg6 : arg6.IsWhole)
    (x0 : Vec F S1024x2048 .bf16) (x1 : Vec F S1024x2048 .bf16) (xo4 : Vec F S1024x56 .f32) :
    Σ' (L2 : List (View.Piece (Elt F) S1024x1024 .bf16)), Σ' (L3 : List (View.Piece (Elt F) S1024x1024 .fp8e4m3)), { L4 : List (View.Piece (Elt F) S1024x56 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_dgrad_requant i arg2 harg2 arg3 harg3 arg4 harg4 arg5 harg5 arg6 harg6) K } := by
  refine ⟨?_, ?_, ?_, fun E K => ?run⟩
  case run =>
    simp only [cc0_dgrad_requant_eq_skeleton]; unfold cc0_dgrad_requant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg2.eq_unread hf0; obtain rfl := harg3.eq_unread hf1; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Hand

end
-- ==== Proof.Block.lean ====
/- One 128-lane block of the kernel body, named once: its quantiser, and the pieces of the run as eight copies of it. -/
module

public import Idealize.ShloMosaic.Lib.Pipeline.Value
public import proofs.«01_k».proof.Proof.KernelRun

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem
variable {F : FTy → Type} [FloatOps F]

/-- A block's 128 columns of the tile, widened. -/
def blkX (v4 : FVec F S1024x1024 .bf16) (o : Nat) (h : S1024x1024.Slices ![0, o] S1024x128) : FVec F S1024x128 .f32 :=
  extf .f32 (extractStridedSlice S1024x128 ![0, o] v4 h) bitsLt_bf16_f32
/-- Each row's largest magnitude in the block. -/
def blkA (X : FVec F S1024x128 .f32) : FVec F S1024x1 .f32 :=
  shapeCast S1024x1 (multiReduction .maximumf [1] S1024 (absf X) 0xFF800000#32 reduces_S1024x128_S1024 (.inl rfl) rfl) shapeCasts_S1024_S1024x1
/-- That magnitude over 448. -/
def blkP (A : FVec F S1024x1 .f32) : FVec F S1024x1 .f32 := mulf A (broadcast S1024x1 (Scalar.ofBits .f32 0x3B124925#32))
/-- One bisection step: take the candidate if its power of two is not above `P`. -/
def blkStep (P : FVec F S1024x1 .f32) (k : BitVec 32) (v : IVec S1024x1 32) : IVec S1024x1 32 :=
  select (cmpf .oge P (bitcastToFloat .f32 (shli (addi v (broadcast S1024x1 k)) (broadcast S1024x1 23#32)))) (addi v (broadcast S1024x1 k)) v
/-- The exponent field by bisection. -/
def blkEx (P : FVec F S1024x1 .f32) : IVec S1024x1 32 :=
  select (cmpf .olt P (broadcast S1024x1 (Scalar.ofBits .f32 0x7B800000#32)))
    (blkStep P 1#32 (blkStep P 2#32 (blkStep P 4#32 (blkStep P 8#32 (blkStep P 16#32 (blkStep P 32#32 (blkStep P 64#32 (blkStep P 128#32
      (broadcast S1024x1 0#32)))))))))
    (broadcast S1024x1 255#32)
/-- The power of two of the scale. -/
def blkE (A : FVec F S1024x1 .f32) : IVec S1024x1 32 :=
  select (ori (ori (cmpi .eq (blkEx (blkP A)) (broadcast S1024x1 0#32)) (cmpi .eq (blkEx (blkP A)) (broadcast S1024x1 255#32)))
      (cmpf .oeq A (broadcast S1024x1 (Scalar.ofBits .f32 0x00000000#32))))
    (broadcast S1024x1 0#32) (subi (blkEx (blkP A)) (broadcast S1024x1 126#32))
/-- The scale. -/
def blkScl (A : FVec F S1024x1 .f32) : FVec F S1024x1 .f32 :=
  bitcastToFloat .f32 (shli (addi (broadcast S1024x1 127#32) (blkE A)) (broadcast S1024x1 23#32))
/-- The scale's reciprocal. -/
def blkInv (A : FVec F S1024x1 .f32) : FVec F S1024x1 .f32 :=
  bitcastToFloat .f32 (shli (subi (broadcast S1024x1 127#32) (blkE A)) (broadcast S1024x1 23#32))
/-- The codes of a block. -/
def blkCode (X : FVec F S1024x128 .f32) : FVec F S1024x128 .fp8e4m3 :=
  truncf .fp8e4m3 (minimumf (broadcast S1024x128 (Scalar.ofBits .f32 0x43E00000#32))
    (maximumf (broadcast S1024x128 (Scalar.ofBits .f32 0xC3E00000#32)) (mulf X (broadcastTo S1024x128 (blkInv (blkA X)) broadcasts_S1024x1_S1024x128)))) bitsLt_fp8e4m3_f32
/-- The scale block with one column replaced by a block's scales. -/
def blkPut (n k : BitVec 32) (prev : FVec F S1024x56 .f32) (X : FVec F S1024x128 .f32) : FVec F S1024x56 .f32 :=
  select (cmpi .eq (iota .tc S1024x56 32 [1] iota_S1024x56_d1_w32) (broadcast S1024x56 (Scalar.addi (Scalar.muli n 8#32) k)))
    (broadcastTo S1024x56 (shapeCast S1024x1 (blkScl (blkA X)) shapeCasts_S1024x1_S1024x1) broadcasts_S1024x1_S1024x56) prev

abbrev T2048 : Rect S1024x2048 := Rect.unit ![0, 0] ![1024, 2048] inb_S1024x2048_S1024x2048_0_0

section
variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .fp8e4m3) (harg5 : arg5.IsWhole) (arg6 : Memref sig .tc .vmem S1024x56 .f32) (harg6 : arg6.IsWhole)
    (x0 : Vec F S1024x2048 .bf16) (x1 : Vec F S1024x2048 .bf16) (xo4 : Vec F S1024x56 .f32)

/-- What the body's load of a whole input buffer reads is the buffer's contents. -/
theorem load_whole (a : Memref sig .tc .vmem S1024x2048 .bf16) (ha : a.IsWhole) (x : Vec F S1024x2048 .bf16) :
    View.readAt (Elt F) a.view T2048.toLoadRect (ha.unread x) = x := by
  rw [View.readAt_eq_ld, Memref.IsWhole.read_unread]
  funext y
  show x _ = x y
  congr 1
  funext a; apply Fin.ext
  match a with
  | ⟨0, _⟩ => show 0 + 1 * (y 0).val = _; simp
  | ⟨1, _⟩ => show 0 + 1 * (y 1).val = _; simp

theorem pieces2 : (bodyRun c i arg2 harg2 arg3 harg3 arg4 harg4 arg5 harg5 arg6 harg6 x0 x1 xo4).1 =
    [⟨Rect.unit ![0, 0] ![1024, 1024] inb_S1024x1024_S1024x1024_0_0, k0_pay3 x0 x1⟩] := by
  have h : (bodyRun c i arg2 harg2 arg3 harg3 arg4 harg4 arg5 harg5 arg6 harg6 x0 x1 xo4).1 =
    [⟨Rect.unit ![0, 0] ![1024, 1024] inb_S1024x1024_S1024x1024_0_0, k0_pay3 (View.readAt (Elt F) arg2.view T2048.toLoadRect (harg2.unread x0)) (View.readAt (Elt F) arg3.view T2048.toLoadRect (harg3.unread x1))⟩] := by
    unfold bodyRun; rfl
  rw [h, load_whole, load_whole]

/-- The eight pieces of the codes. -/
def codePieces (v4 : FVec F S1024x1024 .bf16) : List (View.Piece (Elt F) S1024x1024 .fp8e4m3) :=
  [⟨Rect.unit ![0, 896] ![1024, 128] inb_S1024x1024_S1024x128_0_896, blkCode (blkX v4 896 slices_S1024x1024_o0_896_S1024x128)⟩,
   ⟨Rect.unit ![0, 768] ![1024, 128] inb_S1024x1024_S1024x128_0_768, blkCode (blkX v4 768 slices_S1024x1024_o0_768_S1024x128)⟩,
   ⟨Rect.unit ![0, 640] ![1024, 128] inb_S1024x1024_S1024x128_0_640, blkCode (blkX v4 640 slices_S1024x1024_o0_640_S1024x128)⟩,
   ⟨Rect.unit ![0, 512] ![1024, 128] inb_S1024x1024_S1024x128_0_512, blkCode (blkX v4 512 slices_S1024x1024_o0_512_S1024x128)⟩,
   ⟨Rect.unit ![0, 384] ![1024, 128] inb_S1024x1024_S1024x128_0_384, blkCode (blkX v4 384 slices_S1024x1024_o0_384_S1024x128)⟩,
   ⟨Rect.unit ![0, 256] ![1024, 128] inb_S1024x1024_S1024x128_0_256, blkCode (blkX v4 256 slices_S1024x1024_o0_256_S1024x128)⟩,
   ⟨Rect.unit ![0, 128] ![1024, 128] inb_S1024x1024_S1024x128_0_128, blkCode (blkX v4 128 slices_S1024x1024_o0_128_S1024x128)⟩,
   ⟨Rect.unit ![0, 0] ![1024, 128] inb_S1024x1024_S1024x128_0_0, blkCode (blkX v4 0 slices_S1024x1024_o0_0_S1024x128)⟩]

theorem pieces3 : (bodyRun c i arg2 harg2 arg3 harg3 arg4 harg4 arg5 harg5 arg6 harg6 x0 x1 xo4).2.1 = codePieces (k0_pay3 x0 x1) := by
  have h : (bodyRun c i arg2 harg2 arg3 harg3 arg4 harg4 arg5 harg5 arg6 harg6 x0 x1 xo4).2.1 =
    codePieces (k0_pay3 (View.readAt (Elt F) arg2.view T2048.toLoadRect (harg2.unread x0)) (View.readAt (Elt F) arg3.view T2048.toLoadRect (harg3.unread x1))) := by
    sl_kernel_rfl
  rw [h, load_whole, load_whole]

/-- The scale block after the body, from the scale block before it. -/
def scalePut (n : BitVec 32) (prev : FVec F S1024x56 .f32) (v4 : FVec F S1024x1024 .bf16) : FVec F S1024x56 .f32 :=
  blkPut n 7#32 (blkPut n 6#32 (blkPut n 5#32 (blkPut n 4#32 (blkPut n 3#32 (blkPut n 2#32 (blkPut n 1#32 (blkPut n 0#32 prev
    (blkX v4 0 slices_S1024x1024_o0_0_S1024x128))
    (blkX v4 128 slices_S1024x1024_o0_128_S1024x128))
    (blkX v4 256 slices_S1024x1024_o0_256_S1024x128))
    (blkX v4 384 slices_S1024x1024_o0_384_S1024x128))
    (blkX v4 512 slices_S1024x1024_o0_512_S1024x128))
    (blkX v4 640 slices_S1024x1024_o0_640_S1024x128))
    (blkX v4 768 slices_S1024x1024_o0_768_S1024x128))
    (blkX v4 896 slices_S1024x1024_o0_896_S1024x128)

abbrev T56 : Rect S1024x56 := Rect.unit ![0, 0] ![1024, 56] inb_S1024x56_S1024x56_0_0

theorem load_whole56 (a : Memref sig .tc .vmem S1024x56 .f32) (ha : a.IsWhole) (x : Vec F S1024x56 .f32) :
    shapeCast S1024x56 (View.readAt (Elt F) a.view T56.toLoadRect (ha.unread x)) shapeCasts_S1024x56_S1024x56 = x := by
  rw [View.readAt_eq_ld, Memref.IsWhole.read_unread]
  funext y
  refine (shapeCast_apply _ _ y y rfl).trans ?_
  show x _ = x y
  congr 1
  funext a; apply Fin.ext
  match a with
  | ⟨0, _⟩ => show 0 + 1 * (y 0).val = _; simp
  | ⟨1, _⟩ => show 0 + 1 * (y 1).val = _; simp

theorem pieces4 : (bodyRun c i arg2 harg2 arg3 harg3 arg4 harg4 arg5 harg5 arg6 harg6 x0 x1 xo4).2.2.1 =
    [⟨T56, scalePut (BitVec.ofNat 32 (i 1).val) xo4 (k0_pay3 x0 x1)⟩] := by
  have h : (bodyRun c i arg2 harg2 arg3 harg3 arg4 harg4 arg5 harg5 arg6 harg6 x0 x1 xo4).2.2.1 =
    [⟨T56, scalePut (BitVec.ofNat 32 (i 1).val) (shapeCast S1024x56 (View.readAt (Elt F) arg6.view T56.toLoadRect (harg6.unread xo4)) shapeCasts_S1024x56_S1024x56)
      (k0_pay3 (View.readAt (Elt F) arg2.view T2048.toLoadRect (harg2.unread x0)) (View.readAt (Elt F) arg3.view T2048.toLoadRect (harg3.unread x1)))⟩] := by
    sl_kernel_rfl
  rw [h, load_whole, load_whole, load_whole56]
end
end Cert.KernelIdeal.Hand
end
-- ==== Proof.KernelFrame.lean ====
/- The kernel's launch: what every point's body leaves in the three output windows, and the run to its final state. -/
module

public import proofs.«01_k».proof.Proof.Block
public import Idealize.ShloMosaic.Lib.Pipeline.DatRel
public import Idealize.ShloMosaic.Lib.Pipeline.ArrRel
public import Idealize.ShloMosaic.Lib.Pipeline.Frame
public import Idealize.ShloMosaic.Lib.Claim
public import Idealize.ShloMosaic.Lib.Pointwise.Tactic

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## One column of the scale block -/

theorem slc : ∀ k : Fin 8, S1024x1024.Slices ![0, 128 * k.val] S1024x128
  | 0 => slices_S1024x1024_o0_0_S1024x128
  | 1 => slices_S1024x1024_o0_128_S1024x128
  | 2 => slices_S1024x1024_o0_256_S1024x128
  | 3 => slices_S1024x1024_o0_384_S1024x128
  | 4 => slices_S1024x1024_o0_512_S1024x128
  | 5 => slices_S1024x1024_o0_640_S1024x128
  | 6 => slices_S1024x1024_o0_768_S1024x128
  | 7 => slices_S1024x1024_o0_896_S1024x128

/-- The scale of row `r` of the tile's 128-lane block `k`. -/
def sclOf (v4 : FVec F S1024x1024 .bf16) (k : Fin 8) (r : Fin 1024) : Elt F .f32 :=
  blkScl (blkA (blkX v4 (128 * k.val) (slc k))) (ix2 r 0)

theorem lane_word (y : S1024x56.Idx) : iota .tc S1024x56 32 [1] iota_S1024x56_d1_w32 y = BitVec.ofNat 32 (y 1).val := by
  show BitVec.ofNat 32 (0 * 56 + (y 1).val) = _
  rw [Nat.zero_mul, Nat.zero_add]

/-- Putting a block's scales into column `8 j + k` changes that column alone. -/
theorem blkPut_apply (j k : ℕ) (hj : j < 7) (hk : k < 8) (prev : FVec F S1024x56 .f32) (X : FVec F S1024x128 .f32) (y : S1024x56.Idx) :
    blkPut (BitVec.ofNat 32 j) (BitVec.ofNat 32 k) prev X y = if (y 1).val = 8 * j + k then blkScl (blkA X) (ix2 ⟨(y 0).val, (y 0).isLt⟩ 0) else prev y := by
  have hy : (y 1).val < 56 := (y 1).isLt
  have hb : (broadcastTo S1024x56 (shapeCast S1024x1 (blkScl (blkA X)) shapeCasts_S1024x1_S1024x1) broadcasts_S1024x1_S1024x56) y
      = blkScl (blkA X) (ix2 ⟨(y 0).val, (y 0).isLt⟩ 0) := by
    show shapeCast S1024x1 (blkScl (blkA X)) shapeCasts_S1024x1_S1024x1 _ = _
    rw [shapeCast_apply _ _ _ _ rfl]
    congr 1
    funext a; apply Fin.ext
    match a with
    | ⟨0, _⟩ => rfl
    | ⟨1, _⟩ => rfl
  unfold blkPut
  show Scalar.select (IntOp.cmpi .eq (iota .tc S1024x56 32 [1] iota_S1024x56_d1_w32 y) (Scalar.addi (Scalar.muli (BitVec.ofNat 32 j) 8#32) (BitVec.ofNat 32 k))) _ _ = _
  rw [lane_word, hb]
  have hw : Scalar.addi (Scalar.muli (BitVec.ofNat 32 j) 8#32) (BitVec.ofNat 32 k) = BitVec.ofNat 32 (8 * j + k) := by
    show BitVec.ofNat 32 j * BitVec.ofNat 32 8 + BitVec.ofNat 32 k = _
    rw [← BitVec.ofNat_mul, ← BitVec.ofNat_add, Nat.mul_comm]
  rw [hw]
  have hc : IntOp.cmpi .eq (BitVec.ofNat 32 (y 1).val) (BitVec.ofNat 32 (8 * j + k)) = 1 ↔ (y 1).val = 8 * j + k := by
    unfold IntOp.cmpi
    show BitVec.ofBool (_ == _) = 1 ↔ _
    constructor
    · intro h
      have h' : (BitVec.ofNat 32 (y 1).val == BitVec.ofNat 32 (8 * j + k)) = true := by
        cases hh : (BitVec.ofNat 32 (y 1).val == BitVec.ofNat 32 (8 * j + k))
        · rw [hh] at h; exact absurd h (by decide)
        · rfl
      have h2 := congrArg BitVec.toNat (eq_of_beq h')
      rw [BitVec.toNat_ofNat, BitVec.toNat_ofNat, Nat.mod_eq_of_lt (by omega), Nat.mod_eq_of_lt (by omega)] at h2
      exact h2
    · intro h; rw [h]; simp
  unfold Scalar.select
  by_cases h : (y 1).val = 8 * j + k
  · rw [if_pos (hc.mpr h), if_pos h]
  · rw [if_neg (fun h' => h (hc.mp h')), if_neg h]

/-- The body at column tile `j` writes lanes `8 j … 8 j + 7` of the scale block. -/
theorem scalePut_apply (j : ℕ) (hj : j < 7) (prev : FVec F S1024x56 .f32) (v4 : FVec F S1024x1024 .bf16) (y : S1024x56.Idx) :
    scalePut (BitVec.ofNat 32 j) prev v4 y
      = if (y 1).val / 8 = j then sclOf v4 ⟨(y 1).val % 8, Nat.mod_lt _ (by omega)⟩ ⟨(y 0).val, (y 0).isLt⟩ else prev y := by
  have hy : (y 1).val < 56 := (y 1).isLt
  unfold scalePut
  rw [show (7#32 : BitVec 32) = BitVec.ofNat 32 7 from rfl, show (6#32 : BitVec 32) = BitVec.ofNat 32 6 from rfl, show (5#32 : BitVec 32) = BitVec.ofNat 32 5 from rfl, show (4#32 : BitVec 32) = BitVec.ofNat 32 4 from rfl, show (3#32 : BitVec 32) = BitVec.ofNat 32 3 from rfl, show (2#32 : BitVec 32) = BitVec.ofNat 32 2 from rfl, show (1#32 : BitVec 32) = BitVec.ofNat 32 1 from rfl, show (0#32 : BitVec 32) = BitVec.ofNat 32 0 from rfl]
  rw [blkPut_apply j 7 hj (by omega), blkPut_apply j 6 hj (by omega), blkPut_apply j 5 hj (by omega), blkPut_apply j 4 hj (by omega), blkPut_apply j 3 hj (by omega), blkPut_apply j 2 hj (by omega), blkPut_apply j 1 hj (by omega), blkPut_apply j 0 hj (by omega)]
  unfold sclOf
  by_cases hq : (y 1).val / 8 = j
  · rw [if_pos hq]
    have e : ∀ k (hk : k < 8), (y 1).val % 8 = k → (⟨(y 1).val % 8, Nat.mod_lt _ (by omega)⟩ : Fin 8) = ⟨k, hk⟩ := fun k hk h => Fin.ext h
    rcases (by omega : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7) with h | h | h | h | h | h | h | h
    · rw [if_neg (by omega), if_neg (by omega), if_neg (by omega), if_neg (by omega), if_neg (by omega), if_neg (by omega), if_neg (by omega), if_pos (by omega), e 0 (by omega) h]; rfl
    · rw [if_neg (by omega), if_neg (by omega), if_neg (by omega), if_neg (by omega), if_neg (by omega), if_neg (by omega), if_pos (by omega), e 1 (by omega) h]; rfl
    · rw [if_neg (by omega), if_neg (by omega), if_neg (by omega), if_neg (by omega), if_neg (by omega), if_pos (by omega), e 2 (by omega) h]; rfl
    · rw [if_neg (by omega), if_neg (by omega), if_neg (by omega), if_neg (by omega), if_pos (by omega), e 3 (by omega) h]; rfl
    · rw [if_neg (by omega), if_neg (by omega), if_neg (by omega), if_pos (by omega), e 4 (by omega) h]; rfl
    · rw [if_neg (by omega), if_neg (by omega), if_pos (by omega), e 5 (by omega) h]; rfl
    · rw [if_neg (by omega), if_pos (by omega), e 6 (by omega) h]; rfl
    · rw [if_pos (by omega), e 7 (by omega) h]; rfl
  · rw [if_neg (by omega), if_neg (by omega), if_neg (by omega), if_neg (by omega), if_neg (by omega), if_neg (by omega), if_neg (by omega), if_neg (by omega), if_neg hq]

/-! ## What each point leaves -/

/-- The product tile of point `t`. -/
def tile (c : Dev nD) (t : Fin cfg0.N) : FVec F S1024x1024 .bf16 := k0_pay3 (iblk m c 0 t) (iblk m c 1 t)
/-- Grid point number `n`. -/
def pt (n : ℕ) : Fin cfg0.N := ⟨n % 105, Nat.mod_lt _ (by decide)⟩
theorem pt_val (t : Fin cfg0.N) : pt t.val = t := Fin.ext (Nat.mod_eq_of_lt t.isLt)

theorem cover3 (v4 : FVec F S1024x1024 .bf16) : ∀ y, ∃ p ∈ codePieces v4, y ∈ p.1.set :=
  View.cover_of_tiledL (codePieces v4) S1024x128.size (by sl_kernel_rfl)

/-- The codes of a tile. -/
def codesOf (v4 : FVec F S1024x1024 .bf16) : FVec F S1024x1024 .fp8e4m3 := View.canon (codePieces v4)

/-- What the body leaves in the output windows at point `t`: its tile, its codes, and, in the scale block, the scales of
    every column tile up to its own. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun X => X = tile m c t
  | ⟨3, _⟩ => fun X => X = codesOf (tile m c t)
  | ⟨4, _⟩ => fun X => ∀ y : S1024x56.Idx, (y 1).val < 8 * (t.val % 7 + 1) →
      X y = sclOf (tile m c (pt (7 * (t.val / 7) + (y 1).val / 8))) ⟨(y 1).val % 8, Nat.mod_lt _ (by omega)⟩ ⟨(y 0).val, (y 0).isLt⟩

def fgt : Fin cfg0.W → Bool := fun w => match w with
  | ⟨0, _⟩ => false
  | ⟨1, _⟩ => false
  | ⟨2, _⟩ => true
  | ⟨3, _⟩ => true
  | ⟨4, _⟩ => true

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The relational data of the run. -/
abbrev rdat (c : Dev nD) := (dats m 0 c).toRRel fgt (Rl m c)

/-- What the body finds in the scale block: the scales of the earlier column tiles of the row tile. -/
theorem finds4 (c : Dev nD) (t : Fin cfg0.N) (Y) (h : (rdat m c).Finds 4 t Y) (y : S1024x56.Idx) (hy : (y 1).val < 8 * (t.val % 7)) :
    Y y = sclOf (tile m c (pt (7 * (t.val / 7) + (y 1).val / 8))) ⟨(y 1).val % 8, Nat.mod_lt _ (by omega)⟩ ⟨(y 0).val, (y 0).isLt⟩ := by
  have ht : t.val < 105 := t.isLt
  have h0 : t.val ≠ 0 := by omega
  have hl := ((rdat m c).finds_of_pos (w := 4) rfl h0 Y).mp h
  rcases hl with hl | hl
  · have := (flush0_4 _).mp hl
    dsimp only at this
    omega
  · have := (dats m 0 c).toRRel_leaves (fgt := fgt) (Rl := Rl m c) (w := 4) rfl hl y (by dsimp only; omega)
    dsimp only at this
    rw [show (t.val - 1) / 7 = t.val / 7 by omega] at this
    exact this

theorem coord1 (t : Fin cfg0.N) : (grid0.coords t 1).val = t.val % 7 := by
  rw [Pipeline.Grid.coords_val (G := grid0) (S := 1) (B := 7) t 1 (by decide) rfl]
  show t.val / 1 % 7 = _
  rw [Nat.div_one]

/-! ## The body obligation -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜(rdat m c).Finds 2 t Y⌝ ∗ owns (c : Thread nD τ) (ms0_2 t) fullShare Y)
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ X, ⌜Rl m c 2 t X⌝ ∗ owns (c : Thread nD τ) (ms0_2 t) fullShare X)
    ∗ (∃ X, ⌜Rl m c 3 t X⌝ ∗ owns (c : Thread nD τ) (ms0_3 t) fullShare X)
    ∗ (∃ X, ⌜Rl m c 4 t X⌝ ∗ owns (c : Thread nD τ) (ms0_4 t) fullShare X))

theorem zz : (![0, 0] : Fin 2 → ℕ) = fun _ => 0 := by
  funext a; match a with | ⟨0, _⟩ => rfl | ⟨1, _⟩ => rfl

/-- A property of three packed lists, at what the lists are known to be. -/
theorem sig_at {A B C : Type} {P : A → B → C → Prop} (R : Σ' a : A, Σ' b : B, { x : C // P a b x }) {a : A} {b : B} {x : C}
    (h1 : R.1 = a) (h2 : R.2.1 = b) (h3 : R.2.2.1 = x) : P a b x := by
  subst h1 h2 h3; exact R.2.2.2

section
variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .fp8e4m3) (harg5 : arg5.IsWhole) (arg6 : Memref sig .tc .vmem S1024x56 .f32) (harg6 : arg6.IsWhole)
    (x0 : Vec F S1024x2048 .bf16) (x1 : Vec F S1024x2048 .bf16) (xo4 : Vec F S1024x56 .f32)

theorem read2 (f : arg4.view.ty.Contents (Elt F)) (w : FVec F S1024x1024 .bf16) :
    arg4.view.read (Elt F) (arg4.view.writes (Elt F) f [⟨Rect.unit ![0, 0] ![1024, 1024] inb_S1024x1024_S1024x1024_0_0, w⟩]) = w := by
  rw [View.read_writes_eq_canon _ _ _ (View.cover_of_tiledL _ S1024x1024.size (by sl_kernel_rfl))]
  exact View.canon_unit_zero (Val := Elt F) (e := .bf16) (S := S1024x1024) zz inb_S1024x1024_S1024x1024_0_0 w
theorem read4 (f : arg6.view.ty.Contents (Elt F)) (w : FVec F S1024x56 .f32) :
    arg6.view.read (Elt F) (arg6.view.writes (Elt F) f [⟨T56, w⟩]) = w := by
  rw [View.read_writes_eq_canon _ _ _ (View.cover_of_tiledL _ S1024x56.size (by sl_kernel_rfl))]
  exact View.canon_unit_zero (Val := Elt F) (e := .f32) (S := S1024x56) zz inb_S1024x56_S1024x56_0_0 w

theorem run_pieces (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4
      ∗ (iprop(owns (c : Thread nD τ) arg2 fullShare x0 ∗ owns (c : Thread nD τ) arg3 fullShare x1
          ∗ (∃ f, arg4.view.loc (c : Thread nD τ) ↦[arg4.view.set]{fullShare} arg4.view.writes (Elt F) f [⟨Rect.unit ![0, 0] ![1024, 1024] inb_S1024x1024_S1024x1024_0_0, k0_pay3 x0 x1⟩])
          ∗ (∃ f, arg5.view.loc (c : Thread nD τ) ↦[arg5.view.set]{fullShare} arg5.view.writes (Elt F) f (codePieces (k0_pay3 x0 x1)))
          ∗ (∃ f, arg6.view.loc (c : Thread nD τ) ↦[arg6.view.set]{fullShare} arg6.view.writes (Elt F) f [⟨T56, scalePut (BitVec.ofNat 32 (i 1).val) xo4 (k0_pay3 x0 x1)⟩])) -∗ K ⟨⟩))
      ⊢ wp frame (wpE (defs₀ (F := F)) Variants.none c none) E (cc0_dgrad_requant i arg2 harg2 arg3 harg3 arg4 harg4 arg5 harg5 arg6 harg6) K := by
  exact sig_at (bodyRun c i arg2 harg2 arg3 harg3 arg4 harg4 arg5 harg5 arg6 harg6 x0 x1 xo4) (pieces2 ..) (pieces3 ..) (pieces4 ..) E K

/-- The body's triple on whole staging buffers: its tile, the tile's codes, and the scale block with the tile's scales put in. -/
theorem run_spec (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4
      ∗ (iprop(owns (c : Thread nD τ) arg2 fullShare x0 ∗ owns (c : Thread nD τ) arg3 fullShare x1
          ∗ owns (c : Thread nD τ) arg4 fullShare (k0_pay3 x0 x1)
          ∗ owns (c : Thread nD τ) arg5 fullShare (codesOf (k0_pay3 x0 x1))
          ∗ owns (c : Thread nD τ) arg6 fullShare (scalePut (BitVec.ofNat 32 (i 1).val) xo4 (k0_pay3 x0 x1))) -∗ K ⟨⟩))
      ⊢ wp frame (wpE (defs₀ (F := F)) Variants.none c none) E (cc0_dgrad_requant i arg2 harg2 arg3 harg3 arg4 harg4 arg5 harg5 arg6 harg6) K := by
  iintro ⟨H0, H1, H2, H3, H4, Hk⟩
  iapply (run_pieces c i arg2 harg2 arg3 harg3 arg4 harg4 arg5 harg5 arg6 harg6 x0 x1 xo4 E K)
  isplitl [H0]; · iexact H0
  isplitl [H1]; · iexact H1
  isplitl [H2]; · iexact H2
  isplitl [H3]; · iexact H3
  isplitl [H4]; · iexact H4
  iintro ⟨H0, H1, ⟨%f2, H2⟩, ⟨%f3, H3⟩, ⟨%f4, H4⟩⟩
  iapply Hk
  isplitl [H0]; · iexact H0
  isplitl [H1]; · iexact H1
  isplitl [H2]
  · unfold owns; iexists _; isplitr
    · ipureintro
      exact read2 arg4 f2 _
    · iexact H2
  isplitl [H3]
  · unfold owns; iexists _; isplitr
    · ipureintro
      exact View.read_writes_eq_canon arg5.view f3 _ (cover3 (k0_pay3 x0 x1))
    · iexact H3
  unfold owns; iexists _; isplitr
  · ipureintro
    exact read4 arg6 f4 _
  · iexact H4
end

theorem rl4 (c : Dev nD) (t : Fin cfg0.N) (Y) (h : (rdat m c).Finds 4 t Y) :
    Rl m c 4 t (scalePut (BitVec.ofNat 32 (grid0.coords t 1).val) Y (tile m c t)) := by
  show ∀ y : S1024x56.Idx, _ → _
  intro y hy
  have ht : t.val < 105 := t.isLt
  rw [coord1, scalePut_apply _ (Nat.mod_lt _ (by omega))]
  by_cases hq : (y 1).val / 8 = t.val % 7
  · rw [if_pos hq, hq, show 7 * (t.val / 7) + t.val % 7 = t.val by omega, pt_val]
  · rw [if_neg hq]
    exact finds4 m c t Y h y (by omega)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, -, H2⟩, ⟨%d3, -, H3⟩, ⟨%d4, %hd4, H4⟩⟩
  iapply (run_spec c (grid0.coords t) _ _ _ _ _ _ _ _ _ _ (iblk m c 0 t) (iblk m c 1 t) d4 Set.univ _)
  isplitl [H0]; · iexact H0
  isplitl [H1]; · iexact H1
  isplitl [H2]; · iexists _; iexact H2
  isplitl [H3]; · iexists _; iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]
  · iexists (tile m c t); isplitr
    · ipureintro; exact rfl
    · iexact H2
  isplitl [H3]
  · iexists (codesOf (tile m c t)); isplitr
    · ipureintro; exact rfl
    · iexact H3
  iexists (scalePut (BitVec.ofNat 32 (grid0.coords t 1).val) d4 (tile m c t)); isplitr
  · ipureintro; exact rl4 m c t d4 hd4
  · iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.RDat.FramePost (cfgs 0) (fun c => rdat m c) (V m)) r ∧ r.2.sem = fun _ => 0) :=
  Pipeline.RDat.θ_run_frame cfgs (0 : Fin 1) launch0 defs₀ Variants.none (fun c => rdat m c) m ρ main (Q' := _)
    (hbody := fun c => (body_obligation m c).toRRel) (hshare := fun c => (dats m 0 c).share_full fun _ => rfl)
    (howed := fun _ _ => rfl) (V := V m) (hmain := hmain m Variants.none) (hA := A_eq m) (hΦ := fun _ _ => rfl)
end Cert.KernelIdeal.Hand
end
-- ==== Proof.Scale.lean ====
/- The scale of one block, as a function of one extended real: the exponent by bisection against the least power of two. -/
module

public import proofs.«01_k».proof.ReferenceIdeal
public import Idealize.ShloMosaic.Lib.IdealHost
public import Idealize.ShloMosaic.Lib.Pointwise.Reduce

@[expose] public section
set_option maxRecDepth 16384
noncomputable section
namespace Cert.Scale
open Idealize.ShloMosaic

/-- The real power of two with exponent field `n`. -/
def pw (n : ℕ) : ℝ := (2 : ℝ) ^ ((n : ℤ) - 127)

theorem pw_pos (n : ℕ) : 0 < pw n := by unfold pw; positivity
theorem pw_le {a b : ℕ} (h : a ≤ b) : pw a ≤ pw b := by
  unfold pw; exact zpow_le_zpow_right₀ (by norm_num) (by omega)
theorem pw_lt {a b : ℕ} (h : a < b) : pw a < pw b := by
  unfold pw; exact zpow_lt_zpow_right₀ (by norm_num) (by omega)
theorem lt_of_pw_lt {a b : ℕ} (h : pw a < pw b) : a < b := by
  by_contra hc; exact absurd (pw_le (not_lt.mp hc)) (not_le.mpr h)

theorem bits_fields : ∀ m : Fin 256, ((BitVec.ofNat 32 m.val <<< 23#32).extractLsb' 23 8).toNat = m.val
    ∧ ((BitVec.ofNat 32 m.val <<< 23#32).extractLsb' 0 23).toNat = 0
    ∧ ((BitVec.ofNat 32 m.val <<< 23#32).extractLsb' 31 1 == 1#1) = false := by decide +kernel

theorem ieee_pw (b : BitVec 32) (m : ℕ) (hx : (b.extractLsb' 23 8).toNat = m) (hf : (b.extractLsb' 0 23).toNat = 0) (hn : (b.extractLsb' 31 1 == 1#1) = false)
    (h1 : 1 ≤ m) (h2 : m ≤ 254) : Ideal.ofBits .f32 b = ((pw m : ℝ) : EReal) := by
  show Ideal.ieee 8 23 b = _
  unfold Ideal.ieee
  simp only [show (8 + 23 : ℕ) = 31 from rfl, hx, hf, hn]
  rw [if_neg (show ¬ m = 2 ^ 8 - 1 by norm_num; omega), if_neg (show ¬ m = 0 by omega)]
  congr 1
  unfold pw
  have : ((2 : ℝ) ^ 23) = (2 : ℝ) ^ (23 : ℤ) := by norm_cast
  simp only [Bool.false_eq_true, if_false, one_mul, Nat.add_zero, Nat.cast_pow, Nat.cast_ofNat]
  rw [this, ← zpow_add₀ (by norm_num)]
  congr 1; push_cast; ring

theorem ieee_top (b : BitVec 32) (hx : (b.extractLsb' 23 8).toNat = 255) (hf : (b.extractLsb' 0 23).toNat = 0) (hn : (b.extractLsb' 31 1 == 1#1) = false) :
    Ideal.ofBits .f32 b = (⊤ : EReal) := by
  show Ideal.ieee 8 23 b = _
  unfold Ideal.ieee
  simp only [show (8 + 23 : ℕ) = 31 from rfl, hx, hf, hn]
  rw [if_pos (show (255 : ℕ) = 2 ^ 8 - 1 by norm_num), if_pos trivial, if_neg (by decide)]

theorem ofBits_pw (m : ℕ) (h1 : 1 ≤ m) (h2 : m ≤ 254) : Ideal.ofBits .f32 (BitVec.ofNat 32 m <<< 23#32) = ((pw m : ℝ) : EReal) := by
  obtain ⟨hx, hf, hn⟩ := bits_fields ⟨m, by omega⟩
  exact ieee_pw _ m hx hf hn h1 h2

theorem ofBits_top : Ideal.ofBits .f32 (BitVec.ofNat 32 255 <<< 23#32) = (⊤ : EReal) := by
  obtain ⟨hx, hf, hn⟩ := bits_fields ⟨255, by omega⟩
  exact ieee_top _ hx hf hn

theorem sel {α : Type} (c : BitVec 1) (a b : α) : Scalar.select c a b = if c = 1#1 then a else b := rfl

/-- One bisection step at one value. -/
def step (p : EReal) (k v : BitVec 32) : BitVec 32 :=
  Scalar.select (Ideal.cmp .oge p (Ideal.ofBits .f32 (IntOp.shli .vector (IntOp.addi v k) 23#32))) (IntOp.addi v k) v

def field (p : EReal) : BitVec 32 :=
  Scalar.select (Ideal.cmp .olt p (Ideal.ofBits .f32 0x7B800000#32))
    (step p 1#32 (step p 2#32 (step p 4#32 (step p 8#32 (step p 16#32 (step p 32#32 (step p 64#32 (step p 128#32 0#32))))))))
    255#32

def expo (a p : EReal) : BitVec 32 :=
  Scalar.select (IntOp.ori (IntOp.ori (IntOp.cmpi .eq (field p) 0#32) (IntOp.cmpi .eq (field p) 255#32))
      (Ideal.cmp .oeq a (Ideal.ofBits .f32 0x00000000#32)))
    0#32 (IntOp.subi (field p) 126#32)
/-- The kernel's scale. -/
def kscl (a p : EReal) : EReal := Ideal.ofBits .f32 (IntOp.shli .vector (IntOp.addi 127#32 (expo a p)) 23#32)
/-- The kernel's reciprocal of it. -/
def kinv (a p : EReal) : EReal := Ideal.ofBits .f32 (IntOp.shli .vector (IntOp.subi 127#32 (expo a p)) 23#32)

theorem shli23 (x : BitVec 32) : IntOp.shli .vector x 23#32 = x <<< 23#32 := by
  unfold IntOp.shli; rw [if_pos (by decide)]

theorem cmp_olt (a b : EReal) : Ideal.cmp .olt a b = 1#1 ↔ a < b := by
  unfold Ideal.cmp; by_cases h : a < b <;> simp [h, BitVec.ofBool]
theorem cmp_oge (a b : EReal) : Ideal.cmp .oge a b = 1#1 ↔ b ≤ a := by
  unfold Ideal.cmp; by_cases h : b ≤ a <;> simp [h, BitVec.ofBool]
theorem cmp_oeq (a b : EReal) : Ideal.cmp .oeq a b = 1#1 ↔ a = b := by
  unfold Ideal.cmp; by_cases h : a = b <;> simp [h, BitVec.ofBool]

theorem b120 : Ideal.ofBits .f32 0x7B800000#32 = ((pw 247 : ℝ) : EReal) := ofBits_pw 247 (by omega) (by omega)
theorem bm126 : Ideal.ofBits .f32 0x00800000#32 = ((pw 1 : ℝ) : EReal) := ofBits_pw 1 (by omega) (by omega)
theorem b1 : Ideal.ofBits .f32 0x3F800000#32 = (1 : EReal) := by
  refine (ofBits_pw 127 (by omega) (by omega)).trans ?_
  simp [pw]

/-- A step keeps `n` an exponent field not above `r`'s, and halves the distance. -/
theorem step_spec (r : ℝ) (hr : r < pw 247) (k n : ℕ) (hk : 1 ≤ k) (hn : n + k ≤ 255) (hle : n = 0 ∨ pw n ≤ r) (hlt : r < pw (n + 2 * k)) :
    ∃ n', step (r : EReal) (BitVec.ofNat 32 k) (BitVec.ofNat 32 n) = BitVec.ofNat 32 n' ∧ (n' = n ∨ n' = n + k) ∧ (n' = 0 ∨ pw n' ≤ r) ∧ r < pw (n' + k) := by
  unfold step
  have hadd : IntOp.addi (BitVec.ofNat 32 n) (BitVec.ofNat 32 k) = BitVec.ofNat 32 (n + k) := by
    unfold IntOp.addi; rw [BitVec.ofNat_add]
  rw [hadd, shli23]
  have hc : Ideal.cmp .oge (r : EReal) (Ideal.ofBits .f32 (BitVec.ofNat 32 (n + k) <<< 23#32)) = 1#1 ↔ pw (n + k) ≤ r := by
    rw [cmp_oge]
    by_cases h255 : n + k = 255
    · rw [h255, ofBits_top]
      constructor
      · intro h; exact absurd h (not_le.mpr (EReal.coe_lt_top r))
      · intro h; exact absurd (lt_of_le_of_lt h hr) (not_lt.mpr (pw_le (by omega)))
    · rw [ofBits_pw _ (by omega) (by omega), EReal.coe_le_coe_iff]
  rw [sel]
  by_cases h : pw (n + k) ≤ r
  · refine ⟨n + k, if_pos (hc.mpr h), .inr rfl, .inr h, ?_⟩
    rw [show n + k + k = n + 2 * k by omega]; exact hlt
  · exact ⟨n, if_neg (fun h' => h (hc.mp h')), .inl rfl, hle, not_le.mp h⟩

theorem field_spec (r : ℝ) (h0 : 0 ≤ r) (hr : r < pw 247) :
    ∃ n, field (r : EReal) = BitVec.ofNat 32 n ∧ n ≤ 246 ∧ (n = 0 ∨ pw n ≤ r) ∧ r < pw (n + 1) := by
  obtain ⟨n1, e1, c1, l1, u1⟩ := step_spec r hr 128 0 (by omega) (by omega) (.inl rfl) (hr.trans_le (pw_le (by omega)))
  obtain ⟨n2, e2, c2, l2, u2⟩ := step_spec r hr 64 n1 (by omega) (by omega) l1 u1
  obtain ⟨n3, e3, c3, l3, u3⟩ := step_spec r hr 32 n2 (by omega) (by omega) l2 u2
  obtain ⟨n4, e4, c4, l4, u4⟩ := step_spec r hr 16 n3 (by omega) (by omega) l3 u3
  obtain ⟨n5, e5, c5, l5, u5⟩ := step_spec r hr 8 n4 (by omega) (by omega) l4 u4
  obtain ⟨n6, e6, c6, l6, u6⟩ := step_spec r hr 4 n5 (by omega) (by omega) l5 u5
  obtain ⟨n7, e7, c7, l7, u7⟩ := step_spec r hr 2 n6 (by omega) (by omega) l6 u6
  obtain ⟨n8, e8, c8, l8, u8⟩ := step_spec r hr 1 n7 (by omega) (by omega) l7 u7
  refine ⟨n8, ?_, ?_, l8, u8⟩
  · unfold field; rw [sel]
    rw [if_pos ((cmp_olt _ _).mpr (by rw [b120]; exact EReal.coe_lt_coe_iff.mpr hr))]
    rw [e1, e2, e3, e4, e5, e6, e7, e8]
  · rcases l8 with h | h
    · omega
    · have := lt_of_pw_lt (lt_of_le_of_lt h hr); omega

theorem kscl_of (a p : EReal) (e : ℤ) (n : ℕ) (h : expo a p = BitVec.ofNat 32 n) (h1 : 1 ≤ 127 + n) (h2 : 127 + n ≤ 254) :
    kscl a p = ((pw (127 + n) : ℝ) : EReal) := by
  unfold kscl; rw [h, shli23]
  have : IntOp.addi 127#32 (BitVec.ofNat 32 n) = BitVec.ofNat 32 (127 + n) := by unfold IntOp.addi; rw [BitVec.ofNat_add]
  rw [this, ofBits_pw _ h1 h2]

/-- The kernel's scale and reciprocal: 1 where `p` is subnormal or too large, else the power of two above. -/
theorem kernel_spec (a p : EReal) (h0 : 0 ≤ p) (ha : a = 0 → p = 0) :
    (¬(((pw 1 : ℝ) : EReal) ≤ p ∧ p < ((pw 247 : ℝ) : EReal)) ∧ kscl a p = 1 ∧ kinv a p = 1) ∨
    ∃ n, 1 ≤ n ∧ n ≤ 246 ∧ ((pw n : ℝ) : EReal) ≤ p ∧ p < ((pw (n + 1) : ℝ) : EReal) ∧ kscl a p = ((pw (n + 1) : ℝ) : EReal) ∧ kinv a p = ((pw (253 - n) : ℝ) : EReal) := by
  have one : ∀ (h : expo a p = 0#32), kscl a p = 1 ∧ kinv a p = 1 := fun h => by
    unfold kscl kinv; rw [h]
    exact ⟨b1, b1⟩
  by_cases hp : p < ((pw 247 : ℝ) : EReal)
  · obtain ⟨r, rfl⟩ : ∃ r : ℝ, p = r := by
      induction p with
      | bot => simp at h0
      | top => simp at hp
      | coe r => exact ⟨r, rfl⟩
    have h0' : 0 ≤ r := EReal.coe_nonneg.mp h0
    have hp' : r < pw 247 := EReal.coe_lt_coe_iff.mp hp
    obtain ⟨n, e, hn, hl, hu⟩ := field_spec r h0' hp'
    by_cases hz : n = 0
    · left
      subst hz
      refine ⟨fun h => ?_, one ?_⟩
      · exact absurd (EReal.coe_le_coe_iff.mp h.1) (not_le.mpr hu)
      · unfold expo; rw [e]
        rw [sel]; rw [if_pos]
        generalize Ideal.cmp .oeq a _ = c
        revert c; decide
    · right
      have hl' : pw n ≤ r := hl.resolve_left hz
      refine ⟨n, by omega, hn, EReal.coe_le_coe_iff.mpr hl', EReal.coe_lt_coe_iff.mpr hu, ?_⟩
      have hane : Ideal.cmp .oeq a (Ideal.ofBits .f32 0x00000000#32) = 0#1 := by
        have hz0 : Ideal.ofBits .f32 0x00000000#32 = (0 : EReal) := by
          show Ideal.ieee 8 23 (0x00000000#32) = (0 : EReal)
          unfold Ideal.ieee
          simp
        have hna : a ≠ 0 := fun h => by
          have := ha h
          have : r = 0 := by exact_mod_cast this
          exact absurd (hl'.trans_eq this) (not_le.mpr (pw_pos n))
        rw [hz0]
        simp [Ideal.cmp, BitVec.ofBool, hna]
      have he : expo a (r : EReal) = BitVec.ofNat 32 n - 126#32 := by
        unfold expo; rw [e, hane]
        have : ∀ k : Fin 247, k.val ≠ 0 → IntOp.ori (IntOp.ori (IntOp.cmpi .eq (BitVec.ofNat 32 k.val) 0#32) (IntOp.cmpi .eq (BitVec.ofNat 32 k.val) 255#32)) 0#1 ≠ 1#1 := by
          decide +kernel
        rw [sel]; rw [if_neg (this ⟨n, by omega⟩ hz)]; rfl
      unfold kscl kinv; rw [he, shli23, shli23]
      have h1 : ∀ k : Fin 247, IntOp.addi 127#32 (BitVec.ofNat 32 k.val - 126#32) = BitVec.ofNat 32 (k.val + 1) := by decide +kernel
      have h2 : ∀ k : Fin 247, IntOp.subi 127#32 (BitVec.ofNat 32 k.val - 126#32) = BitVec.ofNat 32 (253 - k.val) := by decide +kernel
      rw [h1 ⟨n, by omega⟩, h2 ⟨n, by omega⟩]
      exact ⟨ofBits_pw _ (by omega) (by omega), ofBits_pw _ (by omega) (by omega)⟩
  · left
    refine ⟨fun h => hp h.2, one ?_⟩
    have : field p = 255#32 := by
      unfold field; rw [sel]
      rw [if_neg (fun h => hp ?_)]
      rw [cmp_olt, b120] at h; exact h
    unfold expo; rw [this]
    rw [sel]; rw [if_pos]
    generalize Ideal.cmp .oeq a _ = c
    revert c; decide

/-! ## The reference's scale -/

theorem lit_pow : ∀ k : Fin 246, Cert.ReferenceIdeal.lit0 k = BitVec.ofNat 32 (k.val + 2) <<< 23#32 := by decide +kernel

theorem lit_pw (k : Fin 246) : Ideal.ofBits .f32 (Cert.ReferenceIdeal.lit0 k) = ((pw (k.val + 2) : ℝ) : EReal) := by
  rw [lit_pow]; exact ofBits_pw _ (by omega) (by omega)

/-- The least table entry above `p`, infinity where there is none. -/
def above (p : EReal) : EReal :=
  (Finset.univ : Finset (Fin 246)).fold min ⊤ fun k =>
    Scalar.select (Ideal.cmp .olt p (Ideal.ofBits .f32 (Cert.ReferenceIdeal.lit0 k))) (Ideal.ofBits .f32 (Cert.ReferenceIdeal.lit0 k)) (Ideal.ofBits .f32 0x7F800000#32)

theorem btop : Ideal.ofBits .f32 0x7F800000#32 = (⊤ : EReal) := ofBits_top

/-- The reference's scale. -/
def rscl (p : EReal) : EReal :=
  Scalar.select (IntOp.andi (Ideal.cmp .oge p (Ideal.ofBits .f32 0x00800000#32)) (Ideal.cmp .olt p (Ideal.ofBits .f32 0x7B800000#32)))
    (above p) (Ideal.ofBits .f32 0x3F800000#32)

theorem above_spec (p : EReal) (n : ℕ) (h1 : 1 ≤ n) (h2 : n ≤ 246) (hl : ((pw n : ℝ) : EReal) ≤ p) (hu : p < ((pw (n + 1) : ℝ) : EReal)) :
    above p = ((pw (n + 1) : ℝ) : EReal) := by
  unfold above
  apply le_antisymm
  · refine (Finset.fold_min_le _).mpr (.inr ⟨⟨n - 1, by omega⟩, Finset.mem_univ _, ?_⟩)
    rw [lit_pw]
    dsimp only
    rw [show n - 1 + 2 = n + 1 by omega]
    rw [sel]
    rw [if_pos ((cmp_olt _ _).mpr hu)]
  · refine (Finset.le_fold_min _).mpr ⟨le_top, fun k _ => ?_⟩
    rw [lit_pw, btop]
    rw [sel]
    split
    · rename_i h
      rw [cmp_olt] at h
      have := lt_of_pw_lt (EReal.coe_lt_coe_iff.mp (lt_of_le_of_lt hl h))
      exact EReal.coe_le_coe_iff.mpr (pw_le (by omega))
    · exact le_top

theorem and_one (a b : BitVec 1) : IntOp.andi a b = 1#1 ↔ a = 1#1 ∧ b = 1#1 := by revert a b; decide

/-- The kernel's scale is the reference's, and its reciprocal 1 over it. -/
theorem scale_eq (a p : EReal) (h0 : 0 ≤ p) (ha : a = 0 → p = 0) :
    kscl a p = rscl p ∧ kinv a p = Ideal.div (Ideal.ofBits .f32 0x3F800000#32) (rscl p) := by
  have hc : IntOp.andi (Ideal.cmp .oge p (Ideal.ofBits .f32 0x00800000#32)) (Ideal.cmp .olt p (Ideal.ofBits .f32 0x7B800000#32)) = 1#1
      ↔ (((pw 1 : ℝ) : EReal) ≤ p ∧ p < ((pw 247 : ℝ) : EReal)) := by
    rw [and_one, cmp_oge, cmp_olt, bm126, b120]
  unfold rscl; rw [sel]
  rcases kernel_spec a p h0 ha with ⟨hn, hs, hi⟩ | ⟨n, h1, h2, hl, hu, hs, hi⟩
  · rw [if_neg (fun h => hn (hc.mp h)), hs, hi, b1]
    refine ⟨rfl, ?_⟩
    unfold Ideal.div
    rw [if_neg one_ne_zero]; simp
  · have hin : ((pw 1 : ℝ) : EReal) ≤ p ∧ p < ((pw 247 : ℝ) : EReal) :=
      ⟨(EReal.coe_le_coe_iff.mpr (pw_le h1)).trans hl, hu.trans_le (EReal.coe_le_coe_iff.mpr (pw_le (by omega)))⟩
    rw [if_pos (hc.mpr hin), hs, hi, b1, above_spec p n h1 h2 hl hu]
    refine ⟨rfl, ?_⟩
    unfold Ideal.div
    rw [if_neg (by exact_mod_cast (pw_pos (n + 1)).ne'), one_mul, ← EReal.coe_inv]
    congr 1
    unfold pw; rw [← zpow_neg]; congr 1; omega
end Cert.Scale
end
-- ==== Proof.Quant.lean ====
/- What both programs compute, over the extended reals: the products, their 128-wide blocks, the block scales and the scaled, clipped values. -/
module

public import proofs.«01_k».proof.Proof.Scale
public import Idealize.ShloMosaic.Lib.Pointwise.Tactic

@[expose] public section
set_option maxRecDepth 16384
noncomputable section
namespace Cert.Scale
open Idealize.ShloMosaic

/-- The largest magnitude of 128 values. -/
def amax (f : Fin 128 → EReal) : EReal := (Finset.univ : Finset (Fin 128)).fold max (Ideal.ofBits .f32 0xFF800000#32) (fun l => max (f l) (-(f l)))
/-- … over 448. -/
def pval (f : Fin 128 → EReal) : EReal := amax f * Ideal.ofBits .f32 0x3B124925#32

theorem amax_nonneg (f : Fin 128 → EReal) : 0 ≤ amax f := by
  unfold amax
  rw [Finset.le_fold_max]
  refine Or.inr ⟨0, Finset.mem_univ _, ?_⟩
  rcases le_total 0 (f 0) with h | h
  · exact le_max_of_le_left h
  · exact le_max_of_le_right (by rw [← neg_zero]; exact EReal.neg_le_neg_iff.mpr h)

theorem ieee_nonneg (b : BitVec 32) (hx : (b.extractLsb' 23 8).toNat = 118) (hn : (b.extractLsb' 31 1 == 1#1) = false) : 0 ≤ Ideal.ofBits .f32 b := by
  show (0 : EReal) ≤ Ideal.ieee 8 23 b
  unfold Ideal.ieee
  simp only [show (8 + 23 : ℕ) = 31 from rfl, hx, hn]
  rw [if_neg (by norm_num), if_neg (by norm_num)]
  simp only [Bool.false_eq_true, if_false, one_mul]
  exact EReal.coe_nonneg.mpr (by positivity)

theorem inv448_nonneg : 0 ≤ Ideal.ofBits .f32 0x3B124925#32 := ieee_nonneg _ (by decide) (by decide)

theorem pval_nonneg (f : Fin 128 → EReal) : 0 ≤ pval f := mul_nonneg (amax_nonneg f) inv448_nonneg

theorem pval_zero (f : Fin 128 → EReal) (h : amax f = 0) : pval f = 0 := by unfold pval; rw [h, zero_mul]

theorem quant_eq (f : Fin 128 → EReal) :
    kscl (amax f) (pval f) = rscl (pval f) ∧ kinv (amax f) (pval f) = Ideal.div (Ideal.ofBits .f32 0x3F800000#32) (rscl (pval f)) :=
  scale_eq _ _ (pval_nonneg f) (pval_zero f)

/-- The product of row `i` of the gradient (its two leading axes read as one) with row `d` of the weights. -/
def DX (dy : Fin 5 → Fin 3072 → Fin 2048 → EReal) (w : Fin 7168 → Fin 2048 → EReal) (i : Fin 15360) (d : Fin 7168) : EReal :=
  ∑ k : Fin 2048, dy ⟨i.val / 3072, by omega⟩ ⟨i.val % 3072, by omega⟩ k * w d k

/-- Block `q` of row `i` of an array of 7168 columns. -/
def blkOf (X : Fin 15360 → Fin 7168 → EReal) (i : Fin 15360) (q : Fin 56) (l : Fin 128) : EReal := X i ⟨128 * q.val + l.val, by omega⟩

/-- The scale of block `q` of row `i`. -/
def sclAt (X : Fin 15360 → Fin 7168 → EReal) (i : Fin 15360) (q : Fin 56) : EReal := rscl (pval (blkOf X i q))

/-- The scaled, clipped value at `(i, d)`. -/
def valAt (X : Fin 15360 → Fin 7168 → EReal) (i : Fin 15360) (d : Fin 7168) : EReal :=
  min (Ideal.ofBits .f32 0x43E00000#32) (max (Ideal.ofBits .f32 0xC3E00000#32)
    (X i d * Ideal.div (Ideal.ofBits .f32 0x3F800000#32) (sclAt X i ⟨d.val / 128, by omega⟩)))

end Cert.Scale
-- ==== Proof.KernelValue.lean ====
/- The kernel's block quantiser at extended reals, element by element. -/
module

public import proofs.«01_k».proof.Proof.KernelFrame
public import proofs.«01_k».proof.Proof.Quant
public import Idealize.ShloMosaic.Lib.MatmulPlain
public import Idealize.ShloMosaic.Lib.KernelVsHost

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Cert.Scale

theorem blkX_apply (v4 : FVec Ideal S1024x1024 .bf16) (o : ℕ) (h : S1024x1024.Slices ![0, o] S1024x128) (r : Fin 1024) (l : Fin 128) (hl : o + l.val < 1024) :
    blkX v4 o h (ix2 r l) = v4 (ix2 r ⟨o + l.val, hl⟩) := by
  unfold blkX
  pointwise

theorem blkA_apply (X : FVec Ideal S1024x128 .f32) (r : Fin 1024) : blkA X (ix2 r 0) = amax fun l => X (ix2 r l) := by
  unfold blkA amax
  refine (shapeCast_apply _ _ (ix2 r 0) (ix1 r) ?_).trans ?_
  · rw [Shape.rowMajor_val_one, Shape.rowMajor_val_two]
    show r.val = r.val * 1 + 0
    omega
  · pointwise
    rfl

theorem blkStep_apply (P : FVec Ideal S1024x1 .f32) (k : BitVec 32) (v : IVec S1024x1 32) (i : S1024x1.Idx) : blkStep P k v i = step (P i) k (v i) := rfl
theorem blkEx_apply (P : FVec Ideal S1024x1 .f32) (i : S1024x1.Idx) : blkEx P i = field (P i) := by
  unfold blkEx field
  simp only [select, blkStep_apply]
  rfl
theorem blkP_apply (A : FVec Ideal S1024x1 .f32) (i : S1024x1.Idx) : blkP A i = A i * Ideal.ofBits .f32 0x3B124925#32 := rfl
theorem blkE_apply (A : FVec Ideal S1024x1 .f32) (i : S1024x1.Idx) : blkE A i = expo (A i) (A i * Ideal.ofBits .f32 0x3B124925#32) := by
  unfold blkE expo
  rw [← blkP_apply, ← blkEx_apply]
  rfl
theorem blkScl_apply (A : FVec Ideal S1024x1 .f32) (i : S1024x1.Idx) : blkScl A i = kscl (A i) (A i * Ideal.ofBits .f32 0x3B124925#32) := by
  unfold blkScl kscl
  rw [← blkE_apply]
  rfl
theorem blkInv_apply (A : FVec Ideal S1024x1 .f32) (i : S1024x1.Idx) : blkInv A i = kinv (A i) (A i * Ideal.ofBits .f32 0x3B124925#32) := by
  unfold blkInv kinv
  rw [← blkE_apply]
  rfl

theorem blkCode_apply (X : FVec Ideal S1024x128 .f32) (r : Fin 1024) (l : Fin 128) :
    blkCode X (ix2 r l) = min (Ideal.ofBits .f32 0x43E00000#32) (max (Ideal.ofBits .f32 0xC3E00000#32) (X (ix2 r l) * blkInv (blkA X) (ix2 r 0))) := by
  unfold blkCode
  pointwise

theorem pay3_apply (x0 x1 : FVec Ideal S1024x2048 .bf16) (r : Fin 1024) (l : Fin 1024) :
    k0_pay3 x0 x1 (ix2 r l) = ∑ k : Fin 2048, x0 (ix2 r k) * x1 (ix2 l k) := by
  unfold k0_pay3
  have hx : shapeCast S1024x2048 x0 shapeCasts_S1024x2048_S1024x2048 = x0 := funext fun y => shapeCast_apply _ _ y y rfl
  have h := Ideal.matmul_transposedRhs_apply (M := 1024) (K := 2048) (N := 1024) (φ₁ := .bf16) (φ₂ := .bf16) none x0 x1 (constant S1024x1024 .f32 0x00000000#32) r l
  show matmul dot_S1024x2048_S1024x2048_S1024x1024_1_1_0_0_n_n none (shapeCast S1024x2048 x0 shapeCasts_S1024x2048_S1024x2048) x1 (constant S1024x1024 .f32 0x00000000#32) (ix2 r l) = _
  rw [hx]
  refine Eq.trans ?_ (h.trans ?_)
  · rfl
  · rw [show (constant S1024x1024 .f32 0x00000000#32 : FVec Ideal S1024x1024 .f32) (ValueIdx.ix2 r l) = (0 : EReal) from Ideal.ofBits_zero_f32, zero_add]
    rfl
end Cert.KernelIdeal.Hand
end
-- ==== Proof.Final.lean ====
/- The kernel's final state: every result array, element by element, from the points' tiles. -/
module

public import proofs.«01_k».proof.Proof.KernelFrame
public import Idealize.ShloMosaic.Lib.Pipeline.ValueKit

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem
open Idealize.ShloMosaic.Pipeline (Dat Cfg Window)
variable {F : FTy → Type} [FloatOps F]
variable (m : (ℓ : Loc nD τ sig) → Buf (Elt F) ℓ) (ρ : Dev nD → PrngReg)

/-- The product, tile by tile. -/
def G2 (c : Dev nD) : S15360x7168.Idx → Elt F .bf16 := fun i =>
  tile m c (pt (7 * ((i 0).val / 1024) + (i 1).val / 1024)) (ix2 ⟨(i 0).val % 1024, Nat.mod_lt _ (by omega)⟩ ⟨(i 1).val % 1024, Nat.mod_lt _ (by omega)⟩)
/-- The codes, tile by tile. -/
def G3 (c : Dev nD) : S15360x7168.Idx → Elt F .fp8e4m3 := fun i =>
  codesOf (tile m c (pt (7 * ((i 0).val / 1024) + (i 1).val / 1024))) (ix2 ⟨(i 0).val % 1024, Nat.mod_lt _ (by omega)⟩ ⟨(i 1).val % 1024, Nat.mod_lt _ (by omega)⟩)
/-- The scales, tile by tile. -/
def G4 (c : Dev nD) : S15360x56.Idx → Elt F .f32 := fun i =>
  sclOf (tile m c (pt (7 * ((i 0).val / 1024) + (i 1).val / 8))) ⟨(i 1).val % 8, Nat.mod_lt _ (by omega)⟩ ⟨(i 0).val % 1024, Nat.mod_lt _ (by omega)⟩

theorem index2 (t : Fin cfg0.N) : (cfg0.win 2).index t = ![t.val / 7, t.val % 7] := by
  revert t; decide +kernel
theorem index3 (t : Fin cfg0.N) : (cfg0.win 3).index t = ![t.val / 7, t.val % 7] := by
  revert t; decide +kernel
theorem index4 (t : Fin cfg0.N) : (cfg0.win 4).index t = ![t.val / 7, 0] := by
  revert t; decide +kernel

variable (c : Dev nD) (after : (w' : Fin cfg0.W) → Fin cfg0.N → (cfg0.win w').block.Idx → Elt F (cfg0.win w').elt)
  (hL : ∀ (w : Fin cfg0.W) (u : Fin cfg0.N), (cfg0.win w).flush u = true → (rdat m c).Leaves w u (after w u))
include hL

theorem arr2 : ((rdat m c).withAfter after).arrAt 2 cfg0.N = G2 m c := by
  refine Dat.arrAt_eq_of_covers _ 2 _ (by decide +kernel) fun t hf y => ?_
  have h := (dats m 0 c).toRRel_leaves (fgt := fgt) (Rl := Rl m c) (w := 2) rfl (hL 2 t hf)
  have h' : after 2 t = tile m c t := h
  blk_simp
  have y0 : (y 0).val < 1024 := (y 0).isLt
  have e0 : ((win0_2.blk t).view.emb y 0).val = t.val / 7 * 1024 + (y 0).val :=
    (win0_2.rect_emb_val t y 0).trans (by rw [show win0_2.index t 0 = t.val / 7 from congrFun (index2 t) 0]; rfl)
  have y1 : (y 1).val < 1024 := (y 1).isLt
  have e1 : ((win0_2.blk t).view.emb y 1).val = t.val % 7 * 1024 + (y 1).val :=
    (win0_2.rect_emb_val t y 1).trans (by rw [show win0_2.index t 1 = t.val % 7 from congrFun (index2 t) 1]; rfl)
  have ht : t.val < 105 := t.isLt
  have ep : pt (7 * (((win0_2.blk t).view.emb y 0).val / 1024) + ((win0_2.blk t).view.emb y 1).val / 1024) = t := by
    rw [e0, e1, show 7 * ((t.val / 7 * 1024 + (y 0).val) / 1024) + (t.val % 7 * 1024 + (y 1).val) / 1024 = t.val by omega]
    exact pt_val t
  show after 2 t y = _
  rw [h']
  unfold G2
  rw [ep]
  congr 1
  funext a; apply Fin.ext
  match a with
  | ⟨0, _⟩ => show (y 0).val = ((win0_2.blk t).view.emb y 0).val % 1024; rw [e0]; omega
  | ⟨1, _⟩ => show (y 1).val = ((win0_2.blk t).view.emb y 1).val % 1024; rw [e1]; omega

theorem arr3 : ((rdat m c).withAfter after).arrAt 3 cfg0.N = G3 m c := by
  refine Dat.arrAt_eq_of_covers _ 3 _ (by decide +kernel) fun t hf y => ?_
  have h := (dats m 0 c).toRRel_leaves (fgt := fgt) (Rl := Rl m c) (w := 3) rfl (hL 3 t hf)
  have h' : after 3 t = codesOf (tile m c t) := h
  blk_simp
  have y0 : (y 0).val < 1024 := (y 0).isLt
  have e0 : ((win0_3.blk t).view.emb y 0).val = t.val / 7 * 1024 + (y 0).val :=
    (win0_3.rect_emb_val t y 0).trans (by rw [show win0_3.index t 0 = t.val / 7 from congrFun (index3 t) 0]; rfl)
  have y1 : (y 1).val < 1024 := (y 1).isLt
  have e1 : ((win0_3.blk t).view.emb y 1).val = t.val % 7 * 1024 + (y 1).val :=
    (win0_3.rect_emb_val t y 1).trans (by rw [show win0_3.index t 1 = t.val % 7 from congrFun (index3 t) 1]; rfl)
  have ht : t.val < 105 := t.isLt
  have ep : pt (7 * (((win0_3.blk t).view.emb y 0).val / 1024) + ((win0_3.blk t).view.emb y 1).val / 1024) = t := by
    rw [e0, e1, show 7 * ((t.val / 7 * 1024 + (y 0).val) / 1024) + (t.val % 7 * 1024 + (y 1).val) / 1024 = t.val by omega]
    exact pt_val t
  show after 3 t y = _
  rw [h']
  unfold G3
  rw [ep]
  congr 1
  funext a; apply Fin.ext
  match a with
  | ⟨0, _⟩ => show (y 0).val = ((win0_3.blk t).view.emb y 0).val % 1024; rw [e0]; omega
  | ⟨1, _⟩ => show (y 1).val = ((win0_3.blk t).view.emb y 1).val % 1024; rw [e1]; omega

theorem arr4 : ((rdat m c).withAfter after).arrAt 4 cfg0.N = G4 m c := by
  refine Dat.arrAt_eq_of_covers _ 4 _ (by decide +kernel) fun t hf y => ?_
  have h := (dats m 0 c).toRRel_leaves (fgt := fgt) (Rl := Rl m c) (w := 4) rfl (hL 4 t hf)
  have h7 := (flush0_4 t).mp hf
  blk_simp
  have y0 : (y 0).val < 1024 := (y 0).isLt
  have e0 : ((win0_4.blk t).view.emb y 0).val = t.val / 7 * 1024 + (y 0).val :=
    (win0_4.rect_emb_val t y 0).trans (by rw [show win0_4.index t 0 = t.val / 7 from congrFun (index4 t) 0]; rfl)
  have y1 : (y 1).val < 56 := (y 1).isLt
  have e1 : ((win0_4.blk t).view.emb y 1).val = (y 1).val :=
    (win0_4.rect_emb_val t y 1).trans (by rw [show win0_4.index t 1 = 0 from congrFun (index4 t) 1]; omega)
  have ht : t.val < 105 := t.isLt
  show after 4 t y = _
  refine (h y (by show (y 1).val < _; omega)).trans ?_
  have ep : pt (7 * (((win0_4.blk t).view.emb y 0).val / 1024) + ((win0_4.blk t).view.emb y 1).val / 8) = pt (7 * (t.val / 7) + (y 1).val / 8) := by
    rw [e0, e1, show (t.val / 7 * 1024 + (y 0).val) / 1024 = t.val / 7 by omega]
  unfold G4
  rw [ep]
  have a1 : ∀ h1 h2, (⟨(y 1).val % 8, h1⟩ : Fin 8) = ⟨((win0_4.blk t).view.emb y 1).val % 8, h2⟩ := fun _ _ => Fin.ext (by dsimp only; rw [e1])
  have a0 : ∀ h1 h2, (⟨(y 0).val, h1⟩ : Fin 1024) = ⟨((win0_4.blk t).view.emb y 0).val % 1024, h2⟩ := fun _ _ => Fin.ext (by dsimp only; rw [e0]; omega)
  exact congrArg₂ (sclOf _) (a1 _ _) (a0 _ _)
omit hL

theorem run_final : θ_run defs (onTc (τ := τ) (main (F := F))) (s₀ m ρ) (fun r => (∀ c : Dev nD,
    r.2.mem ((c : Thread nD τ).loc main_v1_0) = G2 m c
    ∧ r.2.mem ((c : Thread nD τ).loc main_v1_1) = G3 m c
    ∧ r.2.mem ((c : Thread nD τ).loc main_v1_2) = G4 m c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0) := by
  refine (θ_run defs _ _).mono (fun r h => ⟨fun c => ?_, h.2⟩) (run_main_quiescent m ρ)
  obtain ⟨after, hL, hA⟩ := Pipeline.RDat.FramePost.exists_exact h.1 c
  exact ⟨(hA 2).trans (arr2 m c after hL), (hA 3).trans (arr3 m c after hL), (hA 4).trans (arr4 m c after hL),
    ((h.1 c).2 main_arg0 (Pipeline.mem_restRefs_of main_arg0 (by decide) (by decide))).trans (V_main_arg0 m c),
    ((hA 1).trans (Dat.arrAt_in _ 1 rfl _)).trans (V_main_arg1 m c)⟩
end Cert.KernelIdeal.Hand
end
-- ==== Proof.KernelOut.lean ====
/- What the kernel's results hold, element by element, at extended reals. -/
module

public import proofs.«01_k».proof.Proof.KernelValue
public import proofs.«01_k».proof.Proof.Final

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Cert.Scale

/-- Block `k` of row `r` of a tile. -/
def tblk (v4 : FVec Ideal S1024x1024 .bf16) (r : Fin 1024) (k : Fin 8) (l : Fin 128) : EReal := v4 (ix2 r ⟨128 * k.val + l.val, by omega⟩)

theorem blkA_at (v4 : FVec Ideal S1024x1024 .bf16) (o : ℕ) (h : S1024x1024.Slices ![0, o] S1024x128) (k : Fin 8) (ho : o = 128 * k.val) (r : Fin 1024) :
    blkA (blkX v4 o h) (ix2 r 0) = amax (tblk v4 r k) := by
  subst ho
  rw [blkA_apply]
  congr 1
  funext l
  exact blkX_apply v4 _ h r l (by omega)

theorem sclOf_apply (v4 : FVec Ideal S1024x1024 .bf16) (k : Fin 8) (r : Fin 1024) : sclOf v4 k r = rscl (pval (tblk v4 r k)) := by
  unfold sclOf
  rw [blkScl_apply, blkA_at v4 _ _ k rfl r]
  exact (quant_eq _).1

/-- The scaled, clipped value of a tile's element. -/
def tval (v4 : FVec Ideal S1024x1024 .bf16) (r : Fin 1024) (d : Fin 1024) : EReal :=
  min (Ideal.ofBits .f32 0x43E00000#32) (max (Ideal.ofBits .f32 0xC3E00000#32)
    (v4 (ix2 r d) * Ideal.div (Ideal.ofBits .f32 0x3F800000#32) (rscl (pval (tblk v4 r ⟨d.val / 128, by omega⟩)))))

theorem code_at (v4 : FVec Ideal S1024x1024 .bf16) (o : ℕ) (h : S1024x1024.Slices ![0, o] S1024x128) (k : Fin 8) (ho : o = 128 * k.val) (r : Fin 1024) (l : Fin 128)
    (d : Fin 1024) (hd : d.val = o + l.val) : blkCode (blkX v4 o h) (ix2 r l) = tval v4 r d := by
  rw [blkCode_apply, blkInv_apply, blkA_at v4 o h k ho r, blkX_apply v4 o h r l (by omega)]
  unfold tval
  rw [show (⟨o + l.val, by omega⟩ : Fin 1024) = d from Fin.ext hd.symm, show (⟨d.val / 128, by omega⟩ : Fin 8) = k from Fin.ext (by dsimp only; omega)]
  rw [show Ideal.div (Ideal.ofBits .f32 0x3F800000#32) (rscl (pval (tblk v4 r k))) = kinv (amax (tblk v4 r k)) (pval (tblk v4 r k)) from (quant_eq _).2.symm]
  rfl

theorem code_piece (v4 : FVec Ideal S1024x1024 .bf16) (o : ℕ) (h : S1024x1024.Slices ![0, o] S1024x128) (hb : ∀ a, (![0, o] : Fin 2 → Nat) a + S1024x128.size a ≤ S1024x1024.size a) (k : Fin 8) (ho : o = 128 * k.val)
    (x : S1024x128.Idx) : blkCode (blkX v4 o h) x = (fun i : S1024x1024.Idx => tval v4 (i 0) (i 1)) ((Rect.unit (s := S1024x1024) ![0, o] S1024x128.size hb).emb x) := by
  have e : x = ix2 (x 0) (x 1) := by
    funext a
    match a with
    | ⟨0, _⟩ => rfl
    | ⟨1, _⟩ => rfl
  have h0 : ((Rect.unit (s := S1024x1024) ![0, o] S1024x128.size hb).emb x) 0 = x 0 := Fin.ext (by show 0 + 1 * (x 0).val = _; omega)
  have h1 : (((Rect.unit (s := S1024x1024) ![0, o] S1024x128.size hb).emb x) 1).val = o + (x 1).val := by show o + 1 * (x 1).val = _; omega
  rw [e]
  refine (code_at v4 o h k ho (x 0) (x 1) _ h1).trans ?_
  rw [← e]
  show tval v4 (x 0) _ = tval v4 _ _
  rw [h0]

theorem codesOf_apply (v4 : FVec Ideal S1024x1024 .bf16) (r d : Fin 1024) : codesOf v4 (ix2 r d) = tval v4 r d := by
  unfold codesOf
  refine (View.canon_apply_of_pieces (fun i : S1024x1024.Idx => tval v4 (i 0) (i 1)) (codePieces v4) ?_ (ix2 r d) (cover3 v4 _)).trans rfl
  intro p hp x
  unfold codePieces at hp
  simp only [List.mem_cons, List.not_mem_nil, or_false] at hp
  rcases hp with rfl | rfl | rfl | rfl | rfl | rfl | rfl | rfl
  · exact code_piece v4 896 slices_S1024x1024_o0_896_S1024x128 inb_S1024x1024_S1024x128_0_896 7 rfl x
  · exact code_piece v4 768 slices_S1024x1024_o0_768_S1024x128 inb_S1024x1024_S1024x128_0_768 6 rfl x
  · exact code_piece v4 640 slices_S1024x1024_o0_640_S1024x128 inb_S1024x1024_S1024x128_0_640 5 rfl x
  · exact code_piece v4 512 slices_S1024x1024_o0_512_S1024x128 inb_S1024x1024_S1024x128_0_512 4 rfl x
  · exact code_piece v4 384 slices_S1024x1024_o0_384_S1024x128 inb_S1024x1024_S1024x128_0_384 3 rfl x
  · exact code_piece v4 256 slices_S1024x1024_o0_256_S1024x128 inb_S1024x1024_S1024x128_0_256 2 rfl x
  · exact code_piece v4 128 slices_S1024x1024_o0_128_S1024x128 inb_S1024x1024_S1024x128_0_128 1 rfl x
  · exact code_piece v4 0 slices_S1024x1024_o0_0_S1024x128 inb_S1024x1024_S1024x128_0_0 0 rfl x

section
variable (m : (ℓ : Loc nD τ sig) → Buf (Elt Ideal) ℓ) (c : Dev nD)

/-- The gradient as a function of its coordinates. -/
def dyOf (a : Fin 5) (b : Fin 3072) (k : Fin 2048) : EReal := (m ((c : Thread nD τ).loc main_arg0) : S5x3072x2048.Idx → EReal) (ix3 a b k)
/-- The weights as a function of their coordinates. -/
def wOf (d : Fin 7168) (k : Fin 2048) : EReal := (m ((c : Thread nD τ).loc main_arg1) : S7168x2048.Idx → EReal) (ix2 d k)

theorem V0_at (i : Fin 15360) (k : Fin 2048) : (V m c main_v0 : S15360x2048.Idx → EReal) (ix2 i k) = dyOf m c ⟨i.val / 3072, by omega⟩ ⟨i.val % 3072, by omega⟩ k := by
  have e : V m c main_v0 = shapeCast S15360x2048 (m ((c : Thread nD τ).loc main_arg0) : S5x3072x2048.Idx → EReal) shapeCasts_S5x3072x2048_S15360x2048 := by
    unfold V
    after_results
    rfl
  rw [e, shapeCast_apply (k := ix3 ⟨i.val / 3072, by omega⟩ ⟨i.val % 3072, by omega⟩ k)
    (hk := by rw [Shape.rowMajor_val_two, Shape.rowMajor_val_three]; show (i.val / 3072 * 3072 + i.val % 3072) * 2048 + k.val = i.val * 2048 + k.val; omega)]
  rfl

theorem index0 (t : Fin cfg0.N) : (cfg0.win 0).index t = ![t.val / 7, 0] := by
  revert t; decide +kernel
theorem index1 (t : Fin cfg0.N) : (cfg0.win 1).index t = ![t.val % 7, 0] := by
  revert t; decide +kernel

theorem iblk0_at (t : Fin cfg0.N) (r : Fin 1024) (k : Fin 2048) :
    (iblk m c 0 t : S1024x2048.Idx → EReal) (ix2 r k) = (V m c main_v0 : S15360x2048.Idx → EReal) (ix2 ⟨1024 * (t.val / 7) + r.val, by have : t.val < 105 := t.isLt; omega⟩ k) := by
  have e0 : ((win0_0.blk t).view.emb (ix2 r k) 0).val = t.val / 7 * 1024 + r.val :=
    (win0_0.rect_emb_val t (ix2 r k) 0).trans (by rw [show win0_0.index t 0 = t.val / 7 from congrFun (index0 t) 0]; rfl)
  have e1 : ((win0_0.blk t).view.emb (ix2 r k) 1).val = k.val :=
    (win0_0.rect_emb_val t (ix2 r k) 1).trans (by rw [show win0_0.index t 1 = 0 from congrFun (index0 t) 1]; show 0 * 2048 + k.val = _; omega)
  show (V m c main_v0 : S15360x2048.Idx → EReal) ((win0_0.blk t).view.emb (ix2 r k)) = _
  congr 1
  funext a; apply Fin.ext
  match a with
  | ⟨0, _⟩ => refine e0.trans ?_; show _ = 1024 * (t.val / 7) + r.val; omega
  | ⟨1, _⟩ => exact e1

theorem iblk1_at (t : Fin cfg0.N) (r : Fin 1024) (k : Fin 2048) :
    (iblk m c 1 t : S1024x2048.Idx → EReal) (ix2 r k) = wOf m c ⟨1024 * (t.val % 7) + r.val, by omega⟩ k := by
  have e0 : ((win0_1.blk t).view.emb (ix2 r k) 0).val = t.val % 7 * 1024 + r.val :=
    (win0_1.rect_emb_val t (ix2 r k) 0).trans (by rw [show win0_1.index t 0 = t.val % 7 from congrFun (index1 t) 0]; rfl)
  have e1 : ((win0_1.blk t).view.emb (ix2 r k) 1).val = k.val :=
    (win0_1.rect_emb_val t (ix2 r k) 1).trans (by rw [show win0_1.index t 1 = 0 from congrFun (index1 t) 1]; show 0 * 2048 + k.val = _; omega)
  show (V m c main_arg1 : S7168x2048.Idx → EReal) ((win0_1.blk t).view.emb (ix2 r k)) = _
  rw [V_main_arg1]
  unfold wOf
  congr 1
  funext a; apply Fin.ext
  match a with
  | ⟨0, _⟩ => refine e0.trans ?_; show _ = 1024 * (t.val % 7) + r.val; omega
  | ⟨1, _⟩ => exact e1

theorem tile_at (t : Fin cfg0.N) (r d : Fin 1024) (i : Fin 15360) (e : Fin 7168) (hi : i.val = 1024 * (t.val / 7) + r.val) (he : e.val = 1024 * (t.val % 7) + d.val) :
    tile m c t (ix2 r d) = DX (dyOf m c) (wOf m c) i e := by
  unfold tile
  refine (pay3_apply _ _ r d).trans ?_
  unfold DX
  refine Finset.sum_congr rfl fun k _ => ?_
  rw [show (iblk m c 0 t : S1024x2048.Idx → EReal) (ix2 r k) = dyOf m c ⟨i.val / 3072, by omega⟩ ⟨i.val % 3072, by omega⟩ k from by
      rw [iblk0_at, show (⟨1024 * (t.val / 7) + r.val, by have : t.val < 105 := t.isLt; omega⟩ : Fin 15360) = i from Fin.ext hi.symm, V0_at],
    show (iblk m c 1 t : S1024x2048.Idx → EReal) (ix2 d k) = wOf m c e k from by
      rw [iblk1_at, show (⟨1024 * (t.val % 7) + d.val, by omega⟩ : Fin 7168) = e from Fin.ext he.symm]]

theorem pt_small (n : ℕ) (h : n < 105) : (pt n).val = n := Nat.mod_eq_of_lt h

theorem G2_at (i : Fin 15360) (d : Fin 7168) : (G2 m c : S15360x7168.Idx → EReal) (ix2 i d) = DX (dyOf m c) (wOf m c) i d := by
  have hp := pt_small (7 * (i.val / 1024) + d.val / 1024) (by omega)
  show tile m c (pt (7 * (i.val / 1024) + d.val / 1024)) (ix2 ⟨i.val % 1024, _⟩ ⟨d.val % 1024, _⟩) = _
  exact tile_at m c _ _ _ i d (by rw [hp]; dsimp only; omega) (by rw [hp]; dsimp only; omega)

theorem tblk_at (t : Fin cfg0.N) (r : Fin 1024) (k : Fin 8) (i : Fin 15360) (q : Fin 56) (hi : i.val = 1024 * (t.val / 7) + r.val) (hq : q.val = 8 * (t.val % 7) + k.val) :
    tblk (tile m c t) r k = blkOf (DX (dyOf m c) (wOf m c)) i q := by
  funext l
  exact tile_at m c t r _ i _ hi (by dsimp only; omega)

theorem G4_at (i : Fin 15360) (q : Fin 56) : (G4 m c : S15360x56.Idx → EReal) (ix2 i q) = sclAt (DX (dyOf m c) (wOf m c)) i q := by
  have hp := pt_small (7 * (i.val / 1024) + q.val / 8) (by omega)
  show sclOf (tile m c (pt (7 * (i.val / 1024) + q.val / 8))) ⟨q.val % 8, _⟩ ⟨i.val % 1024, _⟩ = _
  rw [sclOf_apply, tblk_at m c _ _ _ i q (by rw [hp]; dsimp only; omega) (by rw [hp]; dsimp only; omega)]
  rfl

theorem G3_at (i : Fin 15360) (d : Fin 7168) : (G3 m c : S15360x7168.Idx → EReal) (ix2 i d) = valAt (DX (dyOf m c) (wOf m c)) i d := by
  have hp := pt_small (7 * (i.val / 1024) + d.val / 1024) (by omega)
  show codesOf (tile m c (pt (7 * (i.val / 1024) + d.val / 1024))) (ix2 ⟨i.val % 1024, _⟩ ⟨d.val % 1024, _⟩) = _
  rw [codesOf_apply]
  unfold tval
  rw [tile_at m c _ _ _ i d (by rw [hp]; dsimp only; omega) (by rw [hp]; dsimp only; omega),
    tblk_at m c _ _ _ i ⟨d.val / 128, by omega⟩ (by rw [hp]; dsimp only; omega) (by rw [hp]; dsimp only; omega)]
  rfl
end
end Cert.KernelIdeal.Hand
-- ==== Proof.RefValue.lean ====
/- What the reference's results hold, element by element, at extended reals. -/
module

public import proofs.«01_k».proof.Proof.Gen.ReferenceIdeal.Value
public import proofs.«01_k».proof.Proof.Quant
public import Idealize.ShloMosaic.Lib.Pointwise.Contract
public import Idealize.ShloMosaic.Lib.MatmulPlain
public import Idealize.ShloMosaic.Lib.KernelVsHost
public import Idealize.ShloMosaic.Lib.StableHlo.ReadAt

@[expose] public section
set_option maxRecDepth 16384
noncomputable section
namespace Cert.ReferenceIdeal.Hand
open Cert.ReferenceIdeal Cert.ReferenceIdeal.Gen
open Idealize.ShloMosaic Idealize.ShloMosaic.TcCoe Idealize.ShloMosaic.Tactic
open Cert.Scale

/-- The product, at the result's type. -/
def refD (dy : FVec Ideal S5x3072x2048 .bf16) (w : FVec Ideal S7168x2048 .bf16) : FVec Ideal S5x3072x7168 .bf16 :=
  truncf .bf16 (Host.dotGeneral dot_S5x3072x2048_S7168x2048_S5x3072x7168_2_1_01_0_n_n none dy w) bitsLt_bf16_f32
/-- The product in blocks of 128. -/
def refB (D : FVec Ideal S5x3072x7168 .bf16) : FVec Ideal S5x3072x56x128 .f32 :=
  shapeCast S5x3072x56x128 (extf .f32 D bitsLt_bf16_f32) shapeCasts_S5x3072x7168_S5x3072x56x128
/-- Each block's largest magnitude over 448. -/
def refP (B : FVec Ideal S5x3072x56x128 .f32) : FVec Ideal S5x3072x56 .f32 :=
  mulf (Host.reduce FloatOps.maximumf (Host.absf B) (constant S_ .f32 0xFF800000#32) reducesTo_S5x3072x56x128_S5x3072x56_d3 h_S_)
    (broadcastInDim S5x3072x56 ![] bcast_S_S5x3072x56 (constant (F := Ideal) S_ .f32 0x3B124925#32))
/-- The powers of two above it, the others infinity. -/
def refW (P : FVec Ideal S5x3072x56 .f32) : FVec Ideal S5x3072x56x246 .f32 :=
  select (cmpf .olt
      (broadcastInDim S5x3072x56x246 ![0, 1, 2, 3] bcast_S5x3072x56x1_S5x3072x56x246_0_1_2_3 (broadcastInDim S5x3072x56x1 ![0, 1, 2] bcast_S5x3072x56_S5x3072x56x1_0_1_2 P))
      (broadcastInDim S5x3072x56x246 ![0, 1, 2, 3] bcast_S1x1x1x246_S5x3072x56x246_0_1_2_3
        (broadcastInDim S1x1x1x246 ![3] bcast_S246_S1x1x1x246_3 (fun i => FloatOps.ofBits .f32 (lit0 (S246.rowMajor i)) : FVec Ideal S246 .f32))))
    (broadcastInDim S5x3072x56x246 ![3] bcast_S246_S5x3072x56x246_3 (fun i => FloatOps.ofBits .f32 (lit0 (S246.rowMajor i)) : FVec Ideal S246 .f32))
    (broadcastInDim S5x3072x56x246 ![] bcast_S_S5x3072x56x246 (constant (F := Ideal) S_ .f32 0x7F800000#32))
/-- The least of them. -/
def refM (P : FVec Ideal S5x3072x56 .f32) : FVec Ideal S5x3072x56 .f32 :=
  Host.reduce FloatOps.minimumf (refW P) (constant S_ .f32 0x7F800000#32) reducesTo_S5x3072x56x246_S5x3072x56_d3 h_S_
/-- The scales. -/
def refS (P : FVec Ideal S5x3072x56 .f32) : FVec Ideal S5x3072x56 .f32 :=
  select (andi (cmpf .oge P (broadcastInDim S5x3072x56 ![] bcast_S_S5x3072x56 (constant (F := Ideal) S_ .f32 0x00800000#32)))
      (cmpf .olt P (broadcastInDim S5x3072x56 ![] bcast_S_S5x3072x56 (constant (F := Ideal) S_ .f32 0x7B800000#32))))
    (refM P) (broadcastInDim S5x3072x56 ![] bcast_S_S5x3072x56 (constant (F := Ideal) S_ .f32 0x3F800000#32))
/-- The scaled, clipped values. -/
def refC (B : FVec Ideal S5x3072x56x128 .f32) (S : FVec Ideal S5x3072x56 .f32) : FVec Ideal S5x3072x56x128 .f32 :=
  minimumf (broadcastInDim S5x3072x56x128 ![] bcast_S_S5x3072x56x128 (constant (F := Ideal) S_ .f32 0x43E00000#32))
    (maximumf (broadcastInDim S5x3072x56x128 ![] bcast_S_S5x3072x56x128 (constant (F := Ideal) S_ .f32 0xC3E00000#32))
      (mulf B (broadcastInDim S5x3072x56x128 ![0, 1, 2, 3] bcast_S5x3072x56x1_S5x3072x56x128_0_1_2_3
        (broadcastInDim S5x3072x56x1 ![0, 1, 2] bcast_S5x3072x56_S5x3072x56x1_0_1_2
          (Host.divf (broadcastInDim S5x3072x56 ![] bcast_S_S5x3072x56 (constant (F := Ideal) S_ .f32 0x3F800000#32)) S)))))

theorem refD_apply (dy : FVec Ideal S5x3072x2048 .bf16) (w : FVec Ideal S7168x2048 .bf16) (a : Fin 5) (b : Fin 3072) (d : Fin 7168) :
    refD dy w (ix3 a b d) = ∑ k : Fin 2048, dy (ix3 a b k) * w (ix2 d k) := by
  unfold refD
  refine (Idealize.ShloMosaic.Ideal.matmul_apply₁_of (a := 2) (d := dot_S5x3072x2048_S7168x2048_S5x3072x7168_2_1_01_0_n_n) rfl (K := 2048) rfl dy w (fun _ => 0) (ix3 a b d) (fun k => ix3 a b k) (fun k => ix2 d k) ?_ ?_).trans (zero_add _)
  · intro k
    funext x
    match x with
    | ⟨0, _⟩ => rfl
    | ⟨1, _⟩ => rfl
    | ⟨2, _⟩ => rfl
  · intro k
    funext x
    match x with
    | ⟨0, _⟩ => rfl
    | ⟨1, _⟩ => rfl

theorem refB_apply (D : FVec Ideal S5x3072x7168 .bf16) (a : Fin 5) (b : Fin 3072) (q : Fin 56) (l : Fin 128) :
    refB D (ix4 a b q l) = D (ix3 a b ⟨128 * q.val + l.val, by omega⟩) := by
  unfold refB
  pointwise
  exact congrArg (fun d => D (ix3 a b d)) (Fin.ext (by dsimp only; omega))

/-- A reduction of the last of four axes, at an index. -/
theorem reduce4 {n0 n1 n2 n3 : ℕ} {u : Shape} {α : Type} (f : α → α → α) [Std.Commutative f] [Std.Associative f] (X : (⟨4, ![n0, n1, n2, n3]⟩ : Shape).Idx → α)
    (init : u.Idx → α) (h' : (⟨4, ![n0, n1, n2, n3]⟩ : Shape).ReducesTo [3] (⟨3, ![n0, n1, n2]⟩ : Shape)) (hu : 0 < u.numel) (a : Fin n0) (b : Fin n1) (q : Fin n2) :
    Host.reduce f X init h' hu (ix3 a b q) = (Finset.univ : Finset (Fin n3)).fold f (init (Shape.Idx.first hu)) fun k => X (ix4 a b q k) := by
  rw [Host.reduce_eq_fold, Shape.ReducesTo.fold_fiber_r4_a3]
  rfl

theorem reduceMax_apply (X : FVec Ideal S5x3072x56x128 .f32) (a : Fin 5) (b : Fin 3072) (q : Fin 56) :
    Host.reduce FloatOps.maximumf X (constant S_ .f32 0xFF800000#32) reducesTo_S5x3072x56x128_S5x3072x56_d3 h_S_ (ix3 a b q)
      = (Finset.univ : Finset (Fin 128)).fold max (Ideal.ofBits .f32 0xFF800000#32) fun l => X (ix4 a b q l) :=
  reduce4 FloatOps.maximumf X _ reducesTo_S5x3072x56x128_S5x3072x56_d3 h_S_ a b q

theorem mul_at {s : Shape} (X Y : FVec Ideal s .f32) (i : s.Idx) : mulf X Y i = X i * Y i := rfl
theorem abs_at {s : Shape} (X : FVec Ideal s .f32) (i : s.Idx) : Host.absf X i = max (X i) (-(X i)) := rfl
theorem bc_at {s u : Shape} (d : Fin s.rank → Fin u.rank) (h) (w : BitVec 32) (i : u.Idx) :
    broadcastInDim u d h (constant (F := Ideal) s .f32 w) i = Ideal.ofBits .f32 w := rfl

theorem refP_apply (B : FVec Ideal S5x3072x56x128 .f32) (a : Fin 5) (b : Fin 3072) (q : Fin 56) :
    refP B (ix3 a b q) = pval fun l => B (ix4 a b q l) := by
  unfold refP
  rw [mul_at, bc_at, reduceMax_apply]
  simp only [abs_at]
  unfold pval amax
  with_reducible rfl

theorem refW_apply (P : FVec Ideal S5x3072x56 .f32) (a : Fin 5) (b : Fin 3072) (q : Fin 56) (k : Fin 246) :
    refW P (ix4 a b q k) = Scalar.select (Ideal.cmp .olt (P (ix3 a b q)) (Ideal.ofBits .f32 (lit0 k))) (Ideal.ofBits .f32 (lit0 k)) (Ideal.ofBits .f32 0x7F800000#32) := by
  unfold refW
  pointwise
  rw [show S246.rowMajor (ix1 k) = k from Fin.ext (Shape.rowMajor_val_one _)]
  rfl

theorem refM_apply (P : FVec Ideal S5x3072x56 .f32) (a : Fin 5) (b : Fin 3072) (q : Fin 56) :
    refM P (ix3 a b q) = (Finset.univ : Finset (Fin 246)).fold min (Ideal.ofBits .f32 0x7F800000#32) fun k => refW P (ix4 a b q k) := by
  exact reduce4 FloatOps.minimumf (refW P) _ reducesTo_S5x3072x56x246_S5x3072x56_d3 h_S_ a b q

theorem refS_apply (P : FVec Ideal S5x3072x56 .f32) (a : Fin 5) (b : Fin 3072) (q : Fin 56) :
    refS P (ix3 a b q) = Scalar.select (IntOp.andi (Ideal.cmp .oge (P (ix3 a b q)) (Ideal.ofBits .f32 0x00800000#32)) (Ideal.cmp .olt (P (ix3 a b q)) (Ideal.ofBits .f32 0x7B800000#32)))
      (refM P (ix3 a b q)) (Ideal.ofBits .f32 0x3F800000#32) := by
  unfold refS
  pointwise
  rfl

theorem refC_apply (B : FVec Ideal S5x3072x56x128 .f32) (S : FVec Ideal S5x3072x56 .f32) (a : Fin 5) (b : Fin 3072) (q : Fin 56) (l : Fin 128) :
    refC B S (ix4 a b q l) = min (Ideal.ofBits .f32 0x43E00000#32) (max (Ideal.ofBits .f32 0xC3E00000#32)
      (B (ix4 a b q l) * Ideal.div (Ideal.ofBits .f32 0x3F800000#32) (S (ix3 a b q)))) := by
  unfold refC
  pointwise
theorem ofBits_inf : Ideal.ofBits .f32 0x7F800000#32 = (⊤ : EReal) := ieee_top _ (by decide) (by decide) (by decide)

section
variable (m : (ℓ : Loc nD τ sig) → Buf (Elt Ideal) ℓ) (c : Dev nD)

theorem V27 : V m c main_v27 = shapeCast S15360x7168 (refD (m ((c : Thread nD τ).loc main_arg0)) (m ((c : Thread nD τ).loc main_arg1))) shapeCasts_S5x3072x7168_S15360x7168 := by
  unfold V
  after_reads_simp
  rfl

theorem V29 : V m c main_v29 = shapeCast S15360x56 (refS (refP (refB (refD (m ((c : Thread nD τ).loc main_arg0)) (m ((c : Thread nD τ).loc main_arg1)))))) shapeCasts_S5x3072x56_S15360x56 := by
  unfold V
  after_reads_simp
  simp -implicitDefEqProofs only [StableHlo.TRef.toBuf, StableHlo.TRef.ofBuf, cast_cast, cast_eq]
  rfl

theorem V28 : V m c main_v28 = shapeCast S15360x7168 (refC (refB (refD (m ((c : Thread nD τ).loc main_arg0)) (m ((c : Thread nD τ).loc main_arg1))))
    (refS (refP (refB (refD (m ((c : Thread nD τ).loc main_arg0)) (m ((c : Thread nD τ).loc main_arg1))))))) shapeCasts_S5x3072x56x128_S15360x7168 := by
  unfold V
  after_reads_simp
  simp -implicitDefEqProofs only [StableHlo.TRef.toBuf, StableHlo.TRef.ofBuf, cast_cast, cast_eq]
  rfl

/-- The gradient as a function of its coordinates. -/
def dyOf (a : Fin 5) (b : Fin 3072) (k : Fin 2048) : EReal := (m ((c : Thread nD τ).loc main_arg0) : S5x3072x2048.Idx → EReal) (ix3 a b k)
/-- The weights as a function of their coordinates. -/
def wOf (d : Fin 7168) (k : Fin 2048) : EReal := (m ((c : Thread nD τ).loc main_arg1) : S7168x2048.Idx → EReal) (ix2 d k)

theorem refD_at (i : Fin 15360) (d : Fin 7168) :
    refD (m ((c : Thread nD τ).loc main_arg0)) (m ((c : Thread nD τ).loc main_arg1)) (ix3 ⟨i.val / 3072, by omega⟩ ⟨i.val % 3072, by omega⟩ d) = DX (dyOf m c) (wOf m c) i d :=
  refD_apply _ _ _ _ _

theorem refP_at (i : Fin 15360) (q : Fin 56) :
    refP (refB (refD (m ((c : Thread nD τ).loc main_arg0)) (m ((c : Thread nD τ).loc main_arg1)))) (ix3 ⟨i.val / 3072, by omega⟩ ⟨i.val % 3072, by omega⟩ q)
      = pval (blkOf (DX (dyOf m c) (wOf m c)) i q) := by
  rw [refP_apply]
  congr 1
  funext l
  rw [refB_apply, refD_at]
  rfl

theorem refS_at (i : Fin 15360) (q : Fin 56) :
    refS (refP (refB (refD (m ((c : Thread nD τ).loc main_arg0)) (m ((c : Thread nD τ).loc main_arg1))))) (ix3 ⟨i.val / 3072, by omega⟩ ⟨i.val % 3072, by omega⟩ q)
      = sclAt (DX (dyOf m c) (wOf m c)) i q := by
  rw [refS_apply, refM_apply]
  simp only [refW_apply, refP_at]
  unfold sclAt rscl above
  rw [ofBits_inf]

theorem V27_at (i : Fin 15360) (d : Fin 7168) : (V m c main_v27 : S15360x7168.Idx → EReal) (ix2 i d) = DX (dyOf m c) (wOf m c) i d := by
  rw [V27, shapeCast_apply (k := ix3 ⟨i.val / 3072, by omega⟩ ⟨i.val % 3072, by omega⟩ d)
    (hk := by rw [Shape.rowMajor_val_two, Shape.rowMajor_val_three]; show (i.val / 3072 * 3072 + i.val % 3072) * 7168 + d.val = i.val * 7168 + d.val; omega)]
  exact refD_at m c i d

theorem V29_at (i : Fin 15360) (q : Fin 56) : (V m c main_v29 : S15360x56.Idx → EReal) (ix2 i q) = sclAt (DX (dyOf m c) (wOf m c)) i q := by
  rw [V29, shapeCast_apply (k := ix3 ⟨i.val / 3072, by omega⟩ ⟨i.val % 3072, by omega⟩ q)
    (hk := by rw [Shape.rowMajor_val_two, Shape.rowMajor_val_three]; show (i.val / 3072 * 3072 + i.val % 3072) * 56 + q.val = i.val * 56 + q.val; omega)]
  exact refS_at m c i q

theorem V28_at (i : Fin 15360) (d : Fin 7168) : (V m c main_v28 : S15360x7168.Idx → EReal) (ix2 i d) = valAt (DX (dyOf m c) (wOf m c)) i d := by
  rw [V28, shapeCast_apply (k := ix4 ⟨i.val / 3072, by omega⟩ ⟨i.val % 3072, by omega⟩ ⟨d.val / 128, by omega⟩ ⟨d.val % 128, by omega⟩)
    (hk := by rw [Shape.rowMajor_val_two, Shape.rowMajor_val_four]; show ((i.val / 3072 * 3072 + i.val % 3072) * 56 + d.val / 128) * 128 + d.val % 128 = i.val * 7168 + d.val; omega)]
  rw [refC_apply, refS_at, refB_apply, refD_at]
  unfold valAt
  rw [show (⟨128 * (d.val / 128) + d.val % 128, by omega⟩ : Fin 7168) = d from Fin.ext (by dsimp only; omega)]
end
end Cert.ReferenceIdeal.Hand
-- ==== Proof.RefOut.lean ====
/- The reference's final state at extended reals. -/
module

public import proofs.«01_k».proof.Proof.RefValue
public import Idealize.ShloMosaic.Lib.Pipeline.ValueKit

@[expose] public section
set_option maxRecDepth 16384
noncomputable section
namespace Cert.ReferenceIdeal.Hand
open Cert.ReferenceIdeal Cert.ReferenceIdeal.Gen
open Idealize.ShloMosaic Idealize.ShloMosaic.TcCoe Idealize.ShloMosaic.Tactic
open Idealize.SL.Sem
open Idealize.ShloMosaic.Pipeline (Dat Cfg Window)
open Cert.Scale

variable (m : (ℓ : Loc nD τ sig) → Buf (Elt Ideal) ℓ) (ρ : Dev nD → PrngReg) (c : Dev nD)

/-- The codes, element by element: the last call stores each value at the 8-bit type. -/
def codes : S15360x7168.Idx → Elt Ideal .fp8e4m3 := fun i => (V m c main_v28 : S15360x7168.Idx → EReal) i

theorem index_zero0 (t : Fin cfg0.N) : (cfg0.win 0).index t = ![0, 0] := by
  revert t; decide +kernel
theorem index_zero1 (t : Fin cfg0.N) : (cfg0.win 1).index t = ![0, 0] := by
  revert t; decide +kernel

theorem emb0 (t : Fin cfg0.N) (y : S15360x7168.Idx) : (win0_0.blk t).view.emb y = y := by
  funext a; apply Fin.ext
  match a with
  | ⟨0, _⟩ => exact (win0_0.rect_emb_val t y 0).trans (by rw [show win0_0.index t 0 = 0 from congrFun (index_zero0 t) 0]; show 0 * _ + (y 0).val = (y 0).val; omega)
  | ⟨1, _⟩ => exact (win0_0.rect_emb_val t y 1).trans (by rw [show win0_0.index t 1 = 0 from congrFun (index_zero0 t) 1]; show 0 * _ + (y 1).val = (y 1).val; omega)
theorem emb1 (t : Fin cfg0.N) (y : S15360x7168.Idx) : (win0_1.blk t).view.emb y = y := by
  funext a; apply Fin.ext
  match a with
  | ⟨0, _⟩ => exact (win0_1.rect_emb_val t y 0).trans (by rw [show win0_1.index t 0 = 0 from congrFun (index_zero1 t) 0]; show 0 * _ + (y 0).val = (y 0).val; omega)
  | ⟨1, _⟩ => exact (win0_1.rect_emb_val t y 1).trans (by rw [show win0_1.index t 1 = 0 from congrFun (index_zero1 t) 1]; show 0 * _ + (y 1).val = (y 1).val; omega)

theorem iblk_at (t : Fin cfg0.N) (y : S15360x7168.Idx) : (iblk m c 0 t : S15360x7168.Idx → EReal) y = (V m c main_v28 : S15360x7168.Idx → EReal) y := by
  show (V m c main_v28 : S15360x7168.Idx → EReal) ((win0_0.blk t).view.emb y) = _
  rw [emb0]

theorem out_at (x : Vec Ideal S15360x7168 .f32) (y : S15360x7168.Idx) : (out0_1 x : S15360x7168.Idx → EReal) y = x y := by
  refine (Value.canon1_eq (View.ld x r0_0) y).trans ?_
  show x (r0_0.idx (Value.ix1_0 y)) = x y
  congr 1
  funext a; apply Fin.ext
  match a with
  | ⟨0, _⟩ => show 0 + 1 * (y 0).val = (y 0).val; omega
  | ⟨1, _⟩ => show 0 + 1 * (y 1).val = (y 1).val; omega

theorem arr30 : (dats m 0 c).arrAt 1 cfg0.N = codes m c := by
  refine Dat.arrAt_eq_of_covers _ 1 _ (by decide +kernel) fun t hf y => ?_
  blk_simp
  show (dats m 0 c).after 1 t y = codes m c ((win0_1.blk t).view.emb y)
  rw [after0_1, emb1]
  exact (out_at _ y).trans (iblk_at m c t y)

theorem run_final : θ_run defs (onTc (τ := τ) (main (F := Ideal))) ⟨m, fun _ => 0, ρ⟩ (fun r => ∀ c : Dev nD,
    r.2.mem ((c : Thread nD τ).loc main_v27) = V m c main_v27
    ∧ r.2.mem ((c : Thread nD τ).loc main_v30) = codes m c
    ∧ r.2.mem ((c : Thread nD τ).loc main_v29) = V m c main_v29
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun r h c => ⟨(h c).2 main_v27 (Pipeline.mem_restRefs_of main_v27 (by decide) (by decide)),
    (Value.post1 m r h c).trans (arr30 m c),
    (h c).2 main_v29 (Pipeline.mem_restRefs_of main_v29 (by decide) (by decide)),
    Value.kept_main_arg0 m r h c, Value.kept_main_arg1 m r h c⟩) (run_main m ρ)
end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.ReferenceIdeal.Value
public import proofs.«01_k».proof.Proof.KernelWords
public import proofs.«01_k».proof.Proof.KernelOut
public import proofs.«01_k».proof.Proof.RefOut

@[expose] public section

noncomputable section

namespace Cert.Proof

open Idealize.ShloMosaic Idealize.SL.Sem

/-- The two programs' products agree element by element when their arguments do. -/
theorem DX_congr (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1)) :
    Scale.DX (ReferenceIdeal.Hand.dyOf m' c) (ReferenceIdeal.Hand.wOf m' c) = Scale.DX (KernelIdeal.Hand.dyOf m c) (KernelIdeal.Hand.wOf m c) := by
  have e0 : ReferenceIdeal.Hand.dyOf m' c = KernelIdeal.Hand.dyOf m c := by
    funext a b k
    exact congrFun h0 (ix3 a b k)
  have e1 : ReferenceIdeal.Hand.wOf m' c = KernelIdeal.Hand.wOf m c := by
    funext d k
    exact congrFun h1 (ix2 d k)
  rw [e0, e1]

theorem idx2 {n0 n1 : ℕ} (i : (⟨2, ![n0, n1]⟩ : Shape).Idx) : i = ix2 (i 0) (i 1) := by
  funext a
  match a with
  | ⟨0, _⟩ => rfl
  | ⟨1, _⟩ => rfl

theorem algebraic : algebraic_KernelIdeal_ReferenceIdeal (hKernelIdeal := Cert.KernelIdeal.Gen.facts) (hReferenceIdeal := Cert.ReferenceIdeal.Gen.facts) := by
  intro m g m' g' _ hm
  refine ⟨KernelIdeal.Hand.G2 m, KernelIdeal.Hand.G3 m, KernelIdeal.Hand.G4 m,
    (θ_run _ _ _).mono (fun r h c => h.1 c) (KernelIdeal.Hand.run_final m g), ?_⟩
  refine (θ_run _ _ _).mono (fun r h c => ?_) (ReferenceIdeal.Hand.run_final m' g')
  have hD := DX_congr m m' c (hm c).1 (hm c).2
  obtain ⟨a2, a3, a4, b0, b1⟩ := h c
  refine ⟨a2.trans ?_, a3.trans ?_, a4.trans ?_, b0, b1⟩
  · funext i
    rw [idx2 i]
    exact ((ReferenceIdeal.Hand.V27_at m' c _ _).trans (congrFun (congrFun hD _) _)).trans (KernelIdeal.Hand.G2_at m c _ _).symm
  · funext i
    rw [idx2 i]
    exact ((ReferenceIdeal.Hand.V28_at m' c _ _).trans (congrArg (fun X => Scale.valAt X (i 0) (i 1)) hD)).trans (KernelIdeal.Hand.G3_at m c _ _).symm
  · funext i
    rw [idx2 i]
    exact ((ReferenceIdeal.Hand.V29_at m' c _ _).trans (congrArg (fun X => Scale.sclAt X (i 0) (i 1)) hD)).trans (KernelIdeal.Hand.G4_at m c _ _).symm

theorem claim : Cert.Claim := ⟨Cert.Kernel.Gen.facts, Cert.KernelIdeal.Gen.facts, Cert.ReferenceIdeal.Gen.facts,
  fun m ρ _ => Cert.Kernel.Hand.frame m ρ,
  fun m ρ _ => (θ_run _ _ _).mono (fun r h => ⟨fun c => ⟨(h.1 c).2.2.2.1, (h.1 c).2.2.2.2⟩, h.2⟩) (KernelIdeal.Hand.run_final m ρ),
  fun m ρ _ => Cert.ReferenceIdeal.Gen.frame m ρ, trivial, algebraic⟩

end Cert.Proof

end
